-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_present [hPre_finite_and_present : Cert.Pre_finite_and_present.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_present.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_present [hPre_finite_and_present : Cert.Pre_finite_and_present.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_present.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_present [hKernelIdeal : Cert.KernelIdeal.Facts] [hPre_finite_and_present : Cert.Pre_finite_and_present.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_present m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_present [hReferenceIdeal : Cert.ReferenceIdeal.Facts] [hPre_finite_and_present : Cert.Pre_finite_and_present.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_present m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_present [hKernelIdeal : Cert.KernelIdeal.Facts] [hReferenceIdeal : Cert.ReferenceIdeal.Facts] [hPre_finite_and_present : Cert.Pre_finite_and_present.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_present m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_present : Cert.Pre_finite_and_present.Facts),
    quiescent_Kernel (hKernel := hKernel)
    ∧ quiescent_KernelIdeal (hKernelIdeal := hKernelIdeal)
    ∧ quiescent_KernelIdeal_pre_finite_and_present (hKernelIdeal := hKernelIdeal) (hPre_finite_and_present := hPre_finite_and_present)
    ∧ quiescent_ReferenceIdeal (hReferenceIdeal := hReferenceIdeal)
    ∧ quiescent_ReferenceIdeal_pre_finite_and_present (hReferenceIdeal := hReferenceIdeal) (hPre_finite_and_present := hPre_finite_and_present)
    ∧ preserves_Kernel_KernelIdeal
    ∧ algebraic_KernelIdeal_ReferenceIdeal_pre_finite_and_present (hKernelIdeal := hKernelIdeal) (hReferenceIdeal := hReferenceIdeal) (hPre_finite_and_present := hPre_finite_and_present)
-- ==== Pre_finite_and_present.lean ====
abbrev S320000x128 : Shape := ⟨2, ![320000, 128]⟩
abbrev S320000 : Shape := ⟨1, ![320000]⟩
abbrev S_ : Shape := ⟨0, ![]⟩
abbrev S1x320000 : Shape := ⟨2, ![1, 320000]⟩
abbrev S32 : Shape := ⟨1, ![32]⟩
abbrev S32x1 : Shape := ⟨2, ![32, 1]⟩
abbrev S32x320000 : Shape := ⟨2, ![32, 320000]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S320000_S1x320000_1 : S320000.BroadcastsInDim S1x320000 (![1] : Fin 1 → Fin S1x320000.rank)
  bcast_S32_S32x1_0 : S32.BroadcastsInDim S32x1 (![0] : Fin 1 → Fin S32x1.rank)
  bcast_S1x320000_S32x320000_0_1 : S1x320000.BroadcastsInDim S32x320000 (![0, 1] : Fin 2 → Fin S32x320000.rank)
  bcast_S32x1_S32x320000_0_1 : S32x1.BroadcastsInDim S32x320000 (![0, 1] : Fin 2 → Fin S32x320000.rank)
  reducesTo_S32x320000_S32_d1 : S32x320000.ReducesTo [1] S32
  bcast_S_S32 : S_.BroadcastsInDim S32 (![] : Fin 0 → Fin S32.rank)

variable [Facts]

def fn {F : FTy → Type} [FloatOps F] (main_arg0 : FVec F S320000x128 .f32) (main_arg1 : IVec S320000 32) : IVec S32 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : IVec S1x320000 32 := broadcastInDim S1x320000 ![1] bcast_S320000_S1x320000_1 main_arg1
  let main_v5 : IVec S32 32 := iotaInDim S32 32 0
  let main_v6 : IVec S32x1 32 := broadcastInDim S32x1 ![0] bcast_S32_S32x1_0 main_v5
  let main_v7 : IVec S32x320000 32 := broadcastInDim S32x320000 ![0, 1] bcast_S1x320000_S32x320000_0_1 main_v4
  let main_v8 : IVec S32x320000 32 := broadcastInDim S32x320000 ![0, 1] bcast_S32x1_S32x320000_0_1 main_v6
  let main_v9 : IVec S32x320000 1 := cmpi .eq main_v7 main_v8
  let main_c_0 : IVec S_ 1 := constantI S_ 1 0#1
  let main_v10 : IVec S32 1 := (fun x v => Host.reduce IntOp.ori x v reducesTo_S32x320000_S32_d1 h_S_) main_v9 main_c_0
  let main_v11 : IVec S32 1 := broadcastInDim S32 ![] bcast_S_S32 main_v3
  let main_v12 : IVec S32 1 := andi main_v11 main_v10
  main_v12
-- ==== Kernel.lean ====
abbrev S320000x128 : Shape := ⟨2, ![320000, 128]⟩
abbrev S320000 : Shape := ⟨1, ![320000]⟩
abbrev S10x1x32000 : Shape := ⟨3, ![10, 1, 32000]⟩
abbrev S32x128 : Shape := ⟨2, ![32, 128]⟩
abbrev S32x1 : Shape := ⟨2, ![32, 1]⟩
abbrev S32000x128 : Shape := ⟨2, ![32000, 128]⟩
abbrev S1x1x32000 : Shape := ⟨3, ![1, 1, 32000]⟩
abbrev S1x32000 : Shape := ⟨2, ![1, 32000]⟩
abbrev S32x32000 : Shape := ⟨2, ![32, 32000]⟩
abbrev S32000x1 : Shape := ⟨2, ![32000, 1]⟩
abbrev S1x128 : Shape := ⟨2, ![1, 128]⟩
abbrev S8x128 : Shape := ⟨2, ![8, 128]⟩
abbrev S32 : Shape := ⟨1, ![32]⟩
abbrev S32000 : Shape := ⟨1, ![32000]⟩
abbrev S1x32x1 : Shape := ⟨3, ![1, 32, 1]⟩
abbrev S1 : Shape := ⟨1, ![1]⟩
abbrev S1x1x1 : Shape := ⟨3, ![1, 1, 1]⟩
abbrev S32x32 : Shape := ⟨2, ![32, 32]⟩
abbrev S1x32 : Shape := ⟨2, ![1, 32]⟩
abbrev S1x32x32 : Shape := ⟨3, ![1, 32, 32]⟩
abbrev S1x4 : Shape := ⟨2, ![1, 4]⟩
abbrev S4 : Shape := ⟨1, ![4]⟩

abbrev nBuf : Space → Nat
  | .hbm => 9
  | .vmem => 19
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S10x1x32000, .i32⟩
  | .hbm, ⟨3, _⟩ => ⟨S32x128, .f32⟩
  | .hbm, ⟨4, _⟩ => ⟨S32x1, .f32⟩
  | .hbm, ⟨5, _⟩ => ⟨S10x1x32000, .f32⟩
  | .hbm, ⟨6, _⟩ => ⟨S8x128, .f32⟩
  | .hbm, ⟨7, _⟩ => ⟨S1x4, .f32⟩
  | .hbm, ⟨8, _⟩ => ⟨S4, .f32⟩
  | .local _ .vmem, ⟨0, _⟩ => ⟨S32000x128, .f32⟩
  | .local _ .vmem, ⟨1, _⟩ => ⟨S32000x128, .f32⟩
  | .local _ .vmem, ⟨2, _⟩ => ⟨S1x1x32000, .i32⟩
  | .local _ .vmem, ⟨3, _⟩ => ⟨S1x1x32000, .i32⟩
  | .local _ .vmem, ⟨4, _⟩ => ⟨S32x128, .f32⟩
  | .local _ .vmem, ⟨5, _⟩ => ⟨S32x1, .f32⟩
  | .local _ .vmem, ⟨6, _⟩ => ⟨S1x1x32000, .f32⟩
  | .local _ .vmem, ⟨7, _⟩ => ⟨S1x1x32000, .f32⟩
  | .local _ .vmem, ⟨8, _⟩ => ⟨S32000x128, .f32⟩
  | .local _ .vmem, ⟨9, _⟩ => ⟨S32000x128, .f32⟩
  | .local _ .vmem, ⟨10, _⟩ => ⟨S1x1x32000, .i32⟩
  | .local _ .vmem, ⟨11, _⟩ => ⟨S1x1x32000, .i32⟩
  | .local _ .vmem, ⟨12, _⟩ => ⟨S1x1x32000, .f32⟩
  | .local _ .vmem, ⟨13, _⟩ => ⟨S1x1x32000, .f32⟩
  | .local _ .vmem, ⟨14, _⟩ => ⟨S32x128, .f32⟩
  | .local _ .vmem, ⟨15, _⟩ => ⟨S32x1, .f32⟩
  | .local _ .vmem, ⟨16, _⟩ => ⟨S8x128, .f32⟩
  | .local _ .vmem, ⟨17, _⟩ => ⟨S32x128, .f32⟩
  | .local _ .vmem, ⟨18, _⟩ => ⟨S32x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x32000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v53 : BitVec 1 := Scalar.cmpi .eq arg0 c9_i32
  let v54 : BitVec 32 := Scalar.extui v53
  let c0_i32_23 : BitVec 32 := 0#32
  let v55 : BitVec 1 := Scalar.cmpi .ne v54 c0_i32_23
  v55

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x32000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x32000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S320000x128 : Shape := ⟨2, ![320000, 128]⟩
abbrev S320000 : Shape := ⟨1, ![320000]⟩
abbrev S_ : Shape := ⟨0, ![]⟩
abbrev S32 : Shape := ⟨1, ![32]⟩
abbrev S320000x1 : Shape := ⟨2, ![320000, 1]⟩
abbrev S32x128 : Shape := ⟨2, ![32, 128]⟩
abbrev S32x1 : Shape := ⟨2, ![32, 1]⟩
abbrev S32x1x128 : Shape := ⟨3, ![32, 1, 128]⟩
abbrev S1x32x128 : Shape := ⟨3, ![1, 32, 128]⟩
abbrev S32x32x128 : Shape := ⟨3, ![32, 32, 128]⟩
abbrev S32x32 : Shape := ⟨2, ![32, 32]⟩
abbrev S1 : Shape := ⟨1, ![1]⟩
abbrev S4 : Shape := ⟨1, ![4]⟩

abbrev nBuf : Space → Nat
  | .hbm => 100
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S_, .f32⟩
  | .hbm, ⟨3, _⟩ => ⟨S320000, .f32⟩
  | .hbm, ⟨4, _⟩ => ⟨S_, .f32⟩
  | .hbm, ⟨5, _⟩ => ⟨S32, .f32⟩
  | .hbm, ⟨6, _⟩ => ⟨S320000x1, .i32⟩
  | .hbm, ⟨7, _⟩ => ⟨S32, .f32⟩
  | .hbm, ⟨8, _⟩ => ⟨S_, .f32⟩
  | .hbm, ⟨9, _⟩ => ⟨S32x128, .f32⟩
  | .hbm, ⟨10, _⟩ => ⟨S320000x1, .i32⟩
  | .hbm, ⟨11, _⟩ => ⟨S32x128, .f32⟩
  | .hbm, ⟨12, _⟩ => ⟨S32x1, .f32⟩
  | .hbm, ⟨13, _⟩ => ⟨S32x128, .f32⟩
  | .hbm, ⟨14, _⟩ => ⟨S32x128, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x128, .f32⟩
  | .hbm, ⟨24, _⟩ => ⟨S320000x128, .f32⟩
  | .hbm, ⟨25, _⟩ => ⟨S320000x128, .f32⟩
  | .hbm, ⟨26, _⟩ => ⟨S_, .f32⟩
  | .hbm, ⟨27, _⟩ => ⟨S320000, .f32⟩
  | .hbm, ⟨28, _⟩ => ⟨S320000, .f32⟩
  | .hbm, ⟨29, _⟩ => ⟨S_, .f32⟩
  | .hbm, ⟨30, _⟩ => ⟨S320000, .f32⟩
  | .hbm, ⟨31, _⟩ => ⟨S320000, .f32⟩
  | .hbm, ⟨32, _⟩ => ⟨S_, .f32⟩
  | .hbm, ⟨33, _⟩ => ⟨S320000, .f32⟩
  | .hbm, ⟨34, _⟩ => ⟨S320000, .f32⟩
  | .hbm, ⟨35, _⟩ => ⟨S320000, .f32⟩
  | .hbm, ⟨36, _⟩ => ⟨S_, .f32⟩
  | .hbm, ⟨37, _⟩ => ⟨S32, .f32⟩
  | .hbm, ⟨38, _⟩ => ⟨S320000x1, .i32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S32x1x128, .f32⟩
  | .hbm, ⟨46, _⟩ => ⟨S1x32x128, .f32⟩
  | .hbm, ⟨47, _⟩ => ⟨S32x32x128, .f32⟩
  | .hbm, ⟨48, _⟩ => ⟨S32x32x128, .f32⟩
  | .hbm, ⟨49, _⟩ => ⟨S32x32x128, .f32⟩
  | .hbm, ⟨50, _⟩ => ⟨S32x32x128, .f32⟩
  | .hbm, ⟨51, _⟩ => ⟨S_, .f32⟩
  | .hbm, ⟨52, _⟩ => ⟨S32x32, .f32⟩
  | .hbm, ⟨53, _⟩ => ⟨S32x32, .i32⟩
  | .hbm, ⟨54, _⟩ => ⟨S32x32, .i32⟩
  | .hbm, ⟨55, _⟩ => ⟨S_, .i32⟩
  | .hbm, ⟨56, _⟩ => ⟨S32x32, .i32⟩
  | .hbm, ⟨57, _⟩ => ⟨S32x32, .i32⟩
  | .hbm, ⟨58, _⟩ => ⟨S32x32, .i1⟩
  | .hbm, ⟨59, _⟩ => ⟨S_, .f32⟩
  | .hbm, ⟨60, _⟩ => ⟨S_, .f32⟩
  | .hbm, ⟨61, _⟩ => ⟨S32x32, .f32⟩
  | .hbm, ⟨62, _⟩ => ⟨S32x32, .f32⟩
  | .hbm, ⟨63, _⟩ => ⟨S32x32, .f32⟩
  | .hbm, ⟨64, _⟩ => ⟨S_, .f32⟩
  | .hbm, ⟨65, _⟩ => ⟨S32x32, .f32⟩
  | .hbm, ⟨66, _⟩ => ⟨S32x32, .f32⟩
  | .hbm, ⟨67, _⟩ => ⟨S_, .f32⟩
  | .hbm, ⟨68, _⟩ => ⟨S32x32, .f32⟩
  | .hbm, ⟨69, _⟩ => ⟨S32x32, .f32⟩
  | .hbm, ⟨70, _⟩ => ⟨S32x32, .f32⟩
  | .hbm, ⟨71, _⟩ => ⟨S_, .f32⟩
  | .hbm, ⟨72, _⟩ => ⟨S_, .f32⟩
  | .hbm, ⟨73, _⟩ => ⟨S32x32, .f32⟩
  | .hbm, ⟨74, _⟩ => ⟨S32x32, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32x128, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S1, .f32⟩
  | .hbm, ⟨98, _⟩ => ⟨S1, .f32⟩
  | .hbm, ⟨99, _⟩ => ⟨S4, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_call0_v0 : Ref sig .tc := ⟨.hbm, 60, rfl⟩
abbrev main_call0_v1 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_call1_v0 : Ref sig .tc := ⟨.hbm, 72, rfl⟩
abbrev main_call1_v1 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_cst_19 : Ref sig .tc := ⟨.hbm, 85, rfl⟩
abbrev main_v58 : Ref sig .tc := ⟨.hbm, 86, rfl⟩
abbrev main_cst_20 : Ref sig .tc := ⟨.hbm, 87, rfl⟩
abbrev main_v59 : Ref sig .tc := ⟨.hbm, 88, rfl⟩
abbrev main_cst_21 : Ref sig .tc := ⟨.hbm, 89, rfl⟩
abbrev main_v60 : Ref sig .tc := ⟨.hbm, 90, rfl⟩
abbrev main_v61 : Ref sig .tc := ⟨.hbm, 91, rfl⟩
abbrev main_cst_22 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Proof.KernelIdeal.PassA.lean ====
/- The first pass: the body at every grid point, and what its windows hold. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, read off the array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Which point is which -/

/-- The body's test for the first point. -/
abbrev cond0_0 (i : grid0.Coords) : Prop := (Scalar.cmpi .ne (Scalar.extui (Scalar.cmpi .eq (BitVec.ofNat 32 (i 0).val) 0#32)) 0#32) = 1#1
/-- The test holds at the first point and nowhere else. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-! ## The body on any buffers -/

/-- A staging buffer of the sums, as a view to state its contents through. -/
abbrev VO0_2 : View sig .tc .vmem S32x128 .f32 := (Memref.whole cc0_stg2_0 : Memref sig .tc .vmem S32x128 .f32).view
/-- A staging buffer of the counts, as a view to state its contents through. -/
abbrev VO0_3 : View sig .tc .vmem S32x1 .f32 := (Memref.whole cc0_stg3_0 : Memref sig .tc .vmem S32x1 .f32).view
/-- A staging buffer of the squared norms, as a view to state its contents through. -/
abbrev VO0_4 : View sig .tc .vmem S1x1x32000 .f32 := (Memref.whole cc0_stg4_0 : Memref sig .tc .vmem S1x1x32000 .f32).view
/-- The staging buffer the body is handed at point `t` for the features. -/
abbrev ms0_0 (t : Fin cfg0.N) : Memref sig .tc .vmem S32000x128 .f32 := win0_0.stage (cfg0.slots t 0)
/-- It is a whole buffer. -/
abbrev hs0_0 (t : Fin cfg0.N) : (ms0_0 t).IsWhole := hstage0_0 ((cfg0.slots t 0).cast nbuf0_0)
/-- The staging buffer the body is handed at point `t` for the labels. -/
abbrev ms0_1 (t : Fin cfg0.N) : Memref sig .tc .vmem S1x1x32000 .i32 := win0_1.stage (cfg0.slots t 1)
/-- It is a whole buffer. -/
abbrev hs0_1 (t : Fin cfg0.N) : (ms0_1 t).IsWhole := hstage0_1 ((cfg0.slots t 1).cast nbuf0_1)
/-- The staging buffer the body is handed at point `t` for the sums. -/
abbrev ms0_2 (t : Fin cfg0.N) : Memref sig .tc .vmem S32x128 .f32 := win0_2.stage (cfg0.slots t 2)
/-- It is a whole buffer. -/
abbrev hs0_2 (t : Fin cfg0.N) : (ms0_2 t).IsWhole := hstage0_2 ((cfg0.slots t 2).cast nbuf0_2)
/-- The staging buffer the body is handed at point `t` for the counts. -/
abbrev ms0_3 (t : Fin cfg0.N) : Memref sig .tc .vmem S32x1 .f32 := win0_3.stage (cfg0.slots t 3)
/-- It is a whole buffer. -/
abbrev hs0_3 (t : Fin cfg0.N) : (ms0_3 t).IsWhole := hstage0_3 ((cfg0.slots t 3).cast nbuf0_3)
/-- The staging buffer the body is handed at point `t` for the squared norms. -/
abbrev ms0_4 (t : Fin cfg0.N) : Memref sig .tc .vmem S1x1x32000 .f32 := win0_4.stage (cfg0.slots t 4)
/-- It is a whole buffer. -/
abbrev hs0_4 (t : Fin cfg0.N) : (ms0_4 t).IsWhole := hstage0_4 ((cfg0.slots t 4).cast nbuf0_4)

section

variable (c : Dev nD) (i : grid0.Coords) (arg1 : Memref sig .tc .vmem S32000x128 .f32) (harg1 : arg1.IsWhole) (arg2 : Memref sig .tc .vmem S1x1x32000 .i32) (harg2 : arg2.IsWhole) (arg3 : Memref sig .tc .vmem S32x128 .f32) (harg3 : arg3.IsWhole) (arg4 : Memref sig .tc .vmem S32x1 .f32) (harg4 : arg4.IsWhole) (arg5 : Memref sig .tc .vmem S1x1x32000 .f32) (harg5 : arg5.IsWhole)

set_option maxHeartbeats 1000000 in
/-- The body at the first point: it runs from its two input blocks and any contents of its three outputs, and leaves in
    the outputs the stores listed here. -/
noncomputable def kernelRun0_A (hc0 : cond0_0 i)
    (x0 : Vec F S32000x128 .f32) (x1 : Vec F S1x1x32000 .i32) :
    Σ' (L2 : List (View.Piece (Elt F) S32x128 .f32)), Σ' (L3 : List (View.Piece (Elt F) S32x1 .f32)), { L4 : List (View.Piece (Elt F) S1x1x32000 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__pass_a i arg1 harg1 arg2 harg2 arg3 harg3 arg4 harg4 arg5 harg5) K } := by
  refine ⟨?_, ?_, ?_, fun E K => ?run⟩
  case run =>
    simp only [cc0__pass_a_eq_skeleton]; unfold cc0__pass_a_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- The stores of the first point cover the buffer of the sums. -/
theorem cover0_A_2 (hc0 : cond0_0 i)
    (x0 : Vec F S32000x128 .f32) (x1 : Vec F S1x1x32000 .i32) (y : S32x128.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S32x128.size (by sl_kernel_rfl) y

/-- What the first point leaves in the buffer of the sums. -/
def out0_A_2 (hc0 : cond0_0 i)
    (x0 : Vec F S32000x128 .f32) (x1 : Vec F S1x1x32000 .i32) : Vec F S32x128 .f32 :=
  VO0_2.read (Elt F) (VO0_2.writes (Elt F) VO0_2.junk (kernelRun0_A c i arg1 harg1 arg2 harg2 arg3 harg3 arg4 harg4 arg5 harg5 hc0 x0 x1).1)

/-- The stores of the first point cover the buffer of the counts. -/
theorem cover0_A_3 (hc0 : cond0_0 i)
    (x0 : Vec F S32000x128 .f32) (x1 : Vec F S1x1x32000 .i32) (y : S32x1.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S32x1.size (by sl_kernel_rfl) y

/-- What the first point leaves in the buffer of the counts. -/
def out0_A_3 (hc0 : cond0_0 i)
    (x0 : Vec F S32000x128 .f32) (x1 : Vec F S1x1x32000 .i32) : Vec F S32x1 .f32 :=
  VO0_3.read (Elt F) (VO0_3.writes (Elt F) VO0_3.junk (kernelRun0_A c i arg1 harg1 arg2 harg2 arg3 harg3 arg4 harg4 arg5 harg5 hc0 x0 x1).2.1)

/-- The stores of the first point cover the buffer of the squared norms. -/
theorem cover0_A_4 (hc0 : cond0_0 i)
    (x0 : Vec F S32000x128 .f32) (x1 : Vec F S1x1x32000 .i32) (y : S1x1x32000.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S1x1x32000.size (by sl_kernel_rfl) y

/-- What the first point leaves in the buffer of the squared norms. -/
def out0_A_4 (hc0 : cond0_0 i)
    (x0 : Vec F S32000x128 .f32) (x1 : Vec F S1x1x32000 .i32) : Vec F S1x1x32000 .f32 :=
  VO0_4.read (Elt F) (VO0_4.writes (Elt F) VO0_4.junk (kernelRun0_A c i arg1 harg1 arg2 harg2 arg3 harg3 arg4 harg4 arg5 harg5 hc0 x0 x1).2.2.1)

set_option maxHeartbeats 1000000 in
/-- The body at a later point: it runs from its two input blocks and what the point before left in the sums and the
    counts, and leaves in the outputs the stores listed here. -/
noncomputable def kernelRun0_B (hc0 : ¬cond0_0 i)
    (x0 : Vec F S32000x128 .f32) (x1 : Vec F S1x1x32000 .i32) (xo2 : Vec F S32x128 .f32) (xo3 : Vec F S32x1 .f32) :
    Σ' (L2 : List (View.Piece (Elt F) S32x128 .f32)), Σ' (L3 : List (View.Piece (Elt F) S32x1 .f32)), { L4 : List (View.Piece (Elt F) S1x1x32000 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__pass_a i arg1 harg1 arg2 harg2 arg3 harg3 arg4 harg4 arg5 harg5) K } := by
  refine ⟨?_, ?_, ?_, fun E K => ?run⟩
  case run =>
    simp only [cc0__pass_a_eq_skeleton]; unfold cc0__pass_a_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- The stores of a later point cover the buffer of the sums. -/
theorem cover0_B_2 (hc0 : ¬cond0_0 i)
    (x0 : Vec F S32000x128 .f32) (x1 : Vec F S1x1x32000 .i32) (xo2 : Vec F S32x128 .f32) (xo3 : Vec F S32x1 .f32) (y : S32x128.Idx) :
    ∃ pc ∈ (kernelRun0_B c i arg1 harg1 arg2 harg2 arg3 harg3 arg4 harg4 arg5 harg5 hc0 x0 x1 xo2 xo3).1, y ∈ pc.1.set :=
  View.cover_of_tiledL (kernelRun0_B c i arg1 harg1 arg2 harg2 arg3 harg3 arg4 harg4 arg5 harg5 hc0 x0 x1 xo2 xo3).1 S32x128.size (by sl_kernel_rfl) y

/-- What a later point leaves in the buffer of the sums. -/
def out0_B_2 (hc0 : ¬cond0_0 i)
    (x0 : Vec F S32000x128 .f32) (x1 : Vec F S1x1x32000 .i32) (xo2 : Vec F S32x128 .f32) (xo3 : Vec F S32x1 .f32) : Vec F S32x128 .f32 :=
  VO0_2.read (Elt F) (VO0_2.writes (Elt F) VO0_2.junk (kernelRun0_B c i arg1 harg1 arg2 harg2 arg3 harg3 arg4 harg4 arg5 harg5 hc0 x0 x1 xo2 xo3).1)

/-- The stores of a later point cover the buffer of the counts. -/
theorem cover0_B_3 (hc0 : ¬cond0_0 i)
    (x0 : Vec F S32000x128 .f32) (x1 : Vec F S1x1x32000 .i32) (xo2 : Vec F S32x128 .f32) (xo3 : Vec F S32x1 .f32) (y : S32x1.Idx) :
    ∃ pc ∈ (kernelRun0_B c i arg1 harg1 arg2 harg2 arg3 harg3 arg4 harg4 arg5 harg5 hc0 x0 x1 xo2 xo3).2.1, y ∈ pc.1.set :=
  View.cover_of_tiledL (kernelRun0_B c i arg1 harg1 arg2 harg2 arg3 harg3 arg4 harg4 arg5 harg5 hc0 x0 x1 xo2 xo3).2.1 S32x1.size (by sl_kernel_rfl) y

/-- What a later point leaves in the buffer of the counts. -/
def out0_B_3 (hc0 : ¬cond0_0 i)
    (x0 : Vec F S32000x128 .f32) (x1 : Vec F S1x1x32000 .i32) (xo2 : Vec F S32x128 .f32) (xo3 : Vec F S32x1 .f32) : Vec F S32x1 .f32 :=
  VO0_3.read (Elt F) (VO0_3.writes (Elt F) VO0_3.junk (kernelRun0_B c i arg1 harg1 arg2 harg2 arg3 harg3 arg4 harg4 arg5 harg5 hc0 x0 x1 xo2 xo3).2.1)

/-- The stores of a later point cover the buffer of the squared norms. -/
theorem cover0_B_4 (hc0 : ¬cond0_0 i)
    (x0 : Vec F S32000x128 .f32) (x1 : Vec F S1x1x32000 .i32) (xo2 : Vec F S32x128 .f32) (xo3 : Vec F S32x1 .f32) (y : S1x1x32000.Idx) :
    ∃ pc ∈ (kernelRun0_B c i arg1 harg1 arg2 harg2 arg3 harg3 arg4 harg4 arg5 harg5 hc0 x0 x1 xo2 xo3).2.2.1, y ∈ pc.1.set :=
  View.cover_of_tiledL (kernelRun0_B c i arg1 harg1 arg2 harg2 arg3 harg3 arg4 harg4 arg5 harg5 hc0 x0 x1 xo2 xo3).2.2.1 S1x1x32000.size (by sl_kernel_rfl) y

/-- What a later point leaves in the buffer of the squared norms. -/
def out0_B_4 (hc0 : ¬cond0_0 i)
    (x0 : Vec F S32000x128 .f32) (x1 : Vec F S1x1x32000 .i32) (xo2 : Vec F S32x128 .f32) (xo3 : Vec F S32x1 .f32) : Vec F S1x1x32000 .f32 :=
  VO0_4.read (Elt F) (VO0_4.writes (Elt F) VO0_4.junk (kernelRun0_B c i arg1 harg1 arg2 harg2 arg3 harg3 arg4 harg4 arg5 harg5 hc0 x0 x1 xo2 xo3).2.2.1)

end

/-! ## What the outputs hold after each point -/

/-- What the three outputs hold after point `n`: the first point starts them, and each later one goes on from the sums and
    the counts of the point before. -/
def outsAt0 (c : Dev nD) : (n : ℕ) → n < cfg0.N → Vec F S32x128 .f32 × Vec F S32x1 .f32 × Vec F S1x1x32000 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩))
  | n + 1, hn =>
    if h0 : (n + 1) % 10 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2.1, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2.1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2.1)

/-- The outputs after the first point. -/
theorem outsAt0_A (c : Dev nD) (t : Fin cfg0.N) (h0 : t.val % 10 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) := by
  obtain ⟨n, hn⟩ := t
  cases n with
  | zero => exact rfl
  | succ n => exact (dif_pos h0).trans rfl

/-- The outputs after a later point, from those of the point before. -/
theorem outsAt0_B (c : Dev nD) (t : Fin cfg0.N) (h0 : ¬t.val % 10 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans rfl

/-! ## The pass for the pipeline -/

/-- The first pass for the pipeline: its arrays as found, each input's buffer left at its block, the outputs' at `outsAt0`;
    beside them the other scoped buffers and the generator register, at anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- Its arrays are those the pass finds. -/
theorem A_eq0 (c : Dev nD) (w : Fin cfg0.W) : (dat0 V c).A w = V c (Pipeline.arrRef spec0 w) := by
  dsimp only [dat0]

/-- What the body leaves in the buffer of the features. -/
theorem after0_0 (c : Dev nD) (t : Fin cfg0.N) : (dat0 V c).after 0 t = iblk0 V c 0 t := by dsimp only [dat0]
/-- What the body leaves in the buffer of the labels. -/
theorem after0_1 (c : Dev nD) (t : Fin cfg0.N) : (dat0 V c).after 1 t = iblk0 V c 1 t := by dsimp only [dat0]
/-- What the body leaves in the buffer of the sums. -/
theorem after0_2 (c : Dev nD) (t : Fin cfg0.N) : (dat0 V c).after 2 t = (outsAt0 V c t.val t.isLt).1 := by dsimp only [dat0]
/-- What the body leaves in the buffer of the counts. -/
theorem after0_3 (c : Dev nD) (t : Fin cfg0.N) : (dat0 V c).after 3 t = (outsAt0 V c t.val t.isLt).2.1 := by dsimp only [dat0]
/-- What the body leaves in the buffer of the squared norms. -/
theorem after0_4 (c : Dev nD) (t : Fin cfg0.N) : (dat0 V c).after 4 t = (outsAt0 V c t.val t.isLt).2.2 := by dsimp only [dat0]

/-- The buffer of the features holds the point's block when the body starts. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl
/-- The buffer of the labels holds the point's block when the body starts. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl
/-- After the first point the buffer of the sums holds what the point before left. -/
theorem before0_2_B (c : Dev nD) (t : Fin cfg0.N) (h0 : ¬t.val % 10 = 0) (d) :
    (dat0 V c).before 2 t d = (outsAt0 V c (t.val - 1) (Nat.lt_of_le_of_lt (Nat.sub_le _ _) t.isLt)).1 := by
  have hN : t.val < 10 := lt_of_lt_of_eq t.isLt (show cfg0.N = 10 from N_0)
  rw [Dat.before_out_kept _ 2 rfl t (by omega) (Bool.eq_false_iff.mpr fun h => by have := (flush0_2 _).mp h; dsimp only at this; omega)
    (fun _ => rfl) (fun _ _ => rfl)]
  dsimp only [dat0]
/-- After the first point the buffer of the counts holds what the point before left. -/
theorem before0_3_B (c : Dev nD) (t : Fin cfg0.N) (h0 : ¬t.val % 10 = 0) (d) :
    (dat0 V c).before 3 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body at every point -/

/-- What the body is handed at point `t`: every window's buffer at what it holds before the body, and what rides beside. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What the body gives back: every window's buffer at what it leaves, and what rides beside. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- At every point the body runs from what it is handed to what it gives back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 10 := lt_of_lt_of_eq t.isLt (show cfg0.N = 10 from N_0)
  by_cases h0 : t.val % 10 = 0
  · rw [outsAt0_A V c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_2_B V c t h0, before0_3_B V c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) _ _).2.2.2 Set.univ _)
    isplitl [H0]; · iexact H0
    isplitl [H1]; · iexact H1
    isplitl [H2]; · iexact H2
    isplitl [H3]; · iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

/-- The body the pipeline calls at point `t` is the printed one on that point's buffers. -/
theorem defs₀_row0 (t : Fin cfg0.N) :
    defs₀ (F := F) .tc cfg0.body (cfg0.bodyArgs t (cfg0.slots t)) = bodyAt0 t := by
  unfold defs₀; rw [Defs.onTc_tc]

/-- The first pass meets the pipeline's condition on its body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdeal.PassB.lean ====
/- The second pass: its windows, its branch conditions, and what it holds beside its windows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, read off the array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Which point is which -/

/-- The body's test for the first point. -/
abbrev cond1_0 (i : grid1.Coords) : Prop := (Scalar.cmpi .ne (Scalar.extui (Scalar.cmpi .eq (BitVec.ofNat 32 (i 0).val) 0#32)) 0#32) = 1#1
/-- It holds at the first point and nowhere else. -/
theorem hcond1_0 : ∀ t : Fin cfg1.N, cond1_0 (grid1.coords t) ↔ t.val % 10 = 0 :=
  (fun t => by
    have ht : t.val < 10 := Nat.lt_of_lt_of_eq t.isLt N_1
    have e0 : (grid1.coords t 0).val = t.val / 1 % 10 := Pipeline.Grid.coords_val t 0 (by decide) rfl
    simp only [cond1_0, e0]
    word_cmp
   : ∀ t : Fin grid1.N, cond1_0 (grid1.coords t) ↔ t.val % 10 = 0)

/-- The body's test for the last point. -/
abbrev cond1_1 (i : grid1.Coords) : Prop := k1_cond2 i = 1#1
/-- It holds at the last point and nowhere else. -/
theorem hcond1_1 : ∀ t : Fin cfg1.N, cond1_1 (grid1.coords t) ↔ t.val % 10 = 9 :=
  (fun t => by
    have ht : t.val < 10 := Nat.lt_of_lt_of_eq t.isLt N_1
    have e0 : (grid1.coords t 0).val = t.val / 1 % 10 := Pipeline.Grid.coords_val t 0 (by decide) rfl
    simp only [cond1_1, k1_cond2, e0]
    word_cmp
   : ∀ t : Fin grid1.N, cond1_1 (grid1.coords t) ↔ t.val % 10 = 9)

/-! ## Where the windows are in use -/

/-- The window of the features is in use at every point. -/
theorem liveAt1_0 : ∀ t : Fin cfg1.N, cfg1.idle 0 (grid1.coords t) = false := fun _ => rfl
/-- The window of the labels is in use at every point. -/
theorem liveAt1_1 : ∀ t : Fin cfg1.N, cfg1.idle 1 (grid1.coords t) = false := fun _ => rfl
/-- The window of the squared norms is in use at every point. -/
theorem liveAt1_2 : ∀ t : Fin cfg1.N, cfg1.idle 2 (grid1.coords t) = false := fun _ => rfl
/-- The window of the sums is in use at every point. -/
theorem liveAt1_3 : ∀ t : Fin cfg1.N, cfg1.idle 3 (grid1.coords t) = false := fun _ => rfl
/-- The window of the counts is in use at every point. -/
theorem liveAt1_4 : ∀ t : Fin cfg1.N, cfg1.idle 4 (grid1.coords t) = false := fun _ => rfl
/-- At the first point the output is not in use: the body stores nothing into it. -/
theorem idleAt1_5_A : ∀ t : Fin cfg1.N, cond1_0 (grid1.coords t) → ¬cond1_1 (grid1.coords t) → cfg1.idle 5 (grid1.coords t) = true := by decide +kernel
/-- At the first point the output is not written back. -/
theorem noFlush1_5_A : ∀ t : Fin cfg1.N, cond1_0 (grid1.coords t) → ¬cond1_1 (grid1.coords t) → (cfg1.win 5).flush t = false := by decide +kernel
/-- At a middle point the output is not in use: the body stores nothing into it. -/
theorem idleAt1_5_B : ∀ t : Fin cfg1.N, ¬cond1_0 (grid1.coords t) → ¬cond1_1 (grid1.coords t) → cfg1.idle 5 (grid1.coords t) = true := by decide +kernel
/-- At a middle point the output is not written back. -/
theorem noFlush1_5_B : ∀ t : Fin cfg1.N, ¬cond1_0 (grid1.coords t) → ¬cond1_1 (grid1.coords t) → (cfg1.win 5).flush t = false := by decide +kernel
/-- At the last point the output is in use. -/
theorem liveAt1_5_C : ∀ t : Fin cfg1.N, ¬cond1_0 (grid1.coords t) → cond1_1 (grid1.coords t) → cfg1.idle 5 (grid1.coords t) = false := by decide +kernel

/-! ## The body on any buffers -/

/-- A staging buffer of the output, as a view to state its contents through. -/
abbrev VO1_5 : View sig .tc .vmem S8x128 .f32 := (Memref.whole cc1_stg5_0 : Memref sig .tc .vmem S8x128 .f32).view
/-- The staging buffer the body is handed at point `t` for the features. -/
abbrev ms1_0 (t : Fin cfg1.N) : Memref sig .tc .vmem S32000x128 .f32 := win1_0.stage (cfg1.slots t 0)
/-- It is a whole buffer. -/
abbrev hs1_0 (t : Fin cfg1.N) : (ms1_0 t).IsWhole := hstage1_0 ((cfg1.slots t 0).cast nbuf1_0)
/-- The staging buffer the body is handed at point `t` for the labels. -/
abbrev ms1_1 (t : Fin cfg1.N) : Memref sig .tc .vmem S1x1x32000 .i32 := win1_1.stage (cfg1.slots t 1)
/-- It is a whole buffer. -/
abbrev hs1_1 (t : Fin cfg1.N) : (ms1_1 t).IsWhole := hstage1_1 ((cfg1.slots t 1).cast nbuf1_1)
/-- The staging buffer the body is handed at point `t` for the squared norms. -/
abbrev ms1_2 (t : Fin cfg1.N) : Memref sig .tc .vmem S1x1x32000 .f32 := win1_2.stage (cfg1.slots t 2)
/-- It is a whole buffer. -/
abbrev hs1_2 (t : Fin cfg1.N) : (ms1_2 t).IsWhole := hstage1_2 ((cfg1.slots t 2).cast nbuf1_2)
/-- The staging buffer the body is handed at point `t` for the sums. -/
abbrev ms1_3 (t : Fin cfg1.N) : Memref sig .tc .vmem S32x128 .f32 := win1_3.stage (cfg1.slots t 3)
/-- It is a whole buffer. -/
abbrev hs1_3 (t : Fin cfg1.N) : (ms1_3 t).IsWhole := hstage1_3 ((cfg1.slots t 3).cast nbuf1_3)
/-- The staging buffer the body is handed at point `t` for the counts. -/
abbrev ms1_4 (t : Fin cfg1.N) : Memref sig .tc .vmem S32x1 .f32 := win1_4.stage (cfg1.slots t 4)
/-- It is a whole buffer. -/
abbrev hs1_4 (t : Fin cfg1.N) : (ms1_4 t).IsWhole := hstage1_4 ((cfg1.slots t 4).cast nbuf1_4)
/-- The staging buffer the body is handed at point `t` for the output. -/
abbrev ms1_5 (t : Fin cfg1.N) : Memref sig .tc .vmem S8x128 .f32 := win1_5.stage (cfg1.slots t 5)
/-- It is a whole buffer. -/
abbrev hs1_5 (t : Fin cfg1.N) : (ms1_5 t).IsWhole := hstage1_5 ((cfg1.slots t 5).cast nbuf1_5)
/-- The scratch buffer that carries the means. -/
abbrev scM1_0 : Memref sig .tc .vmem S32x128 .f32 := Memref.whole cc1_scratch0
/-- The scratch buffer that carries the accumulated penalties. -/
abbrev scM1_1 : Memref sig .tc .vmem S32x1 .f32 := Memref.whole cc1_scratch1
/-- The means' scratch buffer as a view. -/
abbrev VS1_0 : View sig .tc .vmem S32x128 .f32 := scM1_0.view
/-- The penalties' scratch buffer as a view. -/
abbrev VS1_1 : View sig .tc .vmem S32x1 .f32 := scM1_1.view

/-- The first pass's staging buffers, each at some contents: what the second pass holds and never touches. -/
def Stg (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- What rides beside the two scratch buffers through the second pass: the first pass's staging buffers and the
    generator register at some state. -/
def Rest (c : Dev nD) : sProp 𝕄 := iprop(Stg c ∗ ∃ r, prngReg c r)

/-- The scratch buffers at anything and the rest. -/
def Scr (c : Dev nD) : sProp 𝕄 :=
  iprop(iprop((∃ d, owns (c : Thread nD τ) scM1_0 fullShare d) ∗ (∃ d, owns (c : Thread nD τ) scM1_1 fullShare d)) ∗ Rest c)

/-- The scoped buffers the pass is handed and the generator register are the two scratch buffers and the rest. -/
theorem Scr_of_ΦA (c : Dev nD) : (Pipeline.ΦA spec1 c : sProp 𝕄) ⊢ Scr c := by
  unfold Pipeline.ΦA Scr Rest Stg; rw [scopedRest1_eq]; simp only [scM1_0, scM1_1, owns_whole]
  iintro ⟨⟨H0, H1, H2, H3, H4, H5, H6, H7, HS0, HS1⟩, Hg⟩
  isplitl [HS0 HS1]
  · isplitl [HS0]
    · iexact HS0
    iexact HS1
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- The two scratch buffers at anything and the rest are the scoped buffers the pass is handed and the generator register. -/
theorem ΦA_of_Scr (c : Dev nD) : Scr c ⊢ (Pipeline.ΦA spec1 c : sProp 𝕄) := by
  unfold Pipeline.ΦA Scr Rest Stg; rw [scopedRest1_eq]; simp only [scM1_0, scM1_1, owns_whole]
  iintro ⟨⟨HS0, HS1⟩, ⟨⟨H0, H1, H2, H3, H4, H5, H6, H7⟩, Hg⟩⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iexact Hg

end Cert.KernelIdeal.Whole

end
-- ==== Proof.KernelIdeal.PassBA.lean ====
/- The second pass: the run of its body at the first point. -/
module

public import proofs.«01_k».proof.Proof.KernelIdeal.PassB

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section

variable (c : Dev nD) (i : grid1.Coords) (arg1 : Memref sig .tc .vmem S32000x128 .f32) (harg1 : arg1.IsWhole) (arg2 : Memref sig .tc .vmem S1x1x32000 .i32) (harg2 : arg2.IsWhole) (arg3 : Memref sig .tc .vmem S1x1x32000 .f32) (harg3 : arg3.IsWhole) (arg4 : Memref sig .tc .vmem S32x128 .f32) (harg4 : arg4.IsWhole) (arg5 : Memref sig .tc .vmem S32x1 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S32x1 .f32) (harg8 : arg8.IsWhole)

set_option maxHeartbeats 1000000 in
/-- The body at the first point: it runs from its five input blocks and any contents of its scratch, leaves the output as it
    was, and leaves in the two scratch buffers the stores listed here. -/
noncomputable def kernelRun1_A (hc0 : cond1_0 i) (hc1 : ¬cond1_1 i)
    (x0 : Vec F S32000x128 .f32) (x1 : Vec F S1x1x32000 .i32) (x2 : Vec F S1x1x32000 .f32) (x3 : Vec F S32x128 .f32) (x4 : Vec F S32x1 .f32) :
    Σ' (L5 : List (View.Piece (Elt F) S8x128 .f32)), Σ' (LS0 : List (View.Piece (Elt F) S32x128 .f32)), { LS1 : List (View.Piece (Elt F) S32x1 .f32) //
      ∀ (xi5 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass_b i arg1 harg1 arg2 harg2 arg3 harg3 arg4 harg4 arg5 harg5 arg6 harg6 arg7 harg7 arg8 harg8) K } := by
  refine ⟨[], ?_, ?_, fun xi5 E K => ?run⟩
  case run =>
    simp only [cc1__pass_b_eq_skeleton]; unfold cc1__pass_b_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end

end Cert.KernelIdeal.Whole

end
-- ==== Proof.KernelIdeal.PassBB.lean ====
/- The second pass: the run of its body at a middle point. -/
module

public import proofs.«01_k».proof.Proof.KernelIdeal.PassBA

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section

variable (c : Dev nD) (i : grid1.Coords) (arg1 : Memref sig .tc .vmem S32000x128 .f32) (harg1 : arg1.IsWhole) (arg2 : Memref sig .tc .vmem S1x1x32000 .i32) (harg2 : arg2.IsWhole) (arg3 : Memref sig .tc .vmem S1x1x32000 .f32) (harg3 : arg3.IsWhole) (arg4 : Memref sig .tc .vmem S32x128 .f32) (harg4 : arg4.IsWhole) (arg5 : Memref sig .tc .vmem S32x1 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S32x1 .f32) (harg8 : arg8.IsWhole)

set_option maxHeartbeats 1000000 in
/-- The body at a middle point: it runs from its five input blocks and the scratch the point before left, leaves the output
    and the means as they were, and leaves in the penalties' scratch the stores listed here. -/
noncomputable def kernelRun1_B (hc0 : ¬cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) :
    Σ' (L5 : List (View.Piece (Elt F) S8x128 .f32)), Σ' (LS0 : List (View.Piece (Elt F) S32x128 .f32)), { LS1 : List (View.Piece (Elt F) S32x1 .f32) //
      ∀ (xi5 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc1__pass_b i arg1 harg1 arg2 harg2 arg3 harg3 arg4 harg4 arg5 harg5 arg6 harg6 arg7 harg7 arg8 harg8) K } := by
  refine ⟨[], [], ?_, fun xi5 E K => ?run⟩
  case run =>
    simp only [cc1__pass_b_eq_skeleton]; unfold cc1__pass_b_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end

end Cert.KernelIdeal.Whole

end
-- ==== Proof.KernelIdeal.PassBC.lean ====
/- The second pass: the run of its body at the last point. -/
module

public import proofs.«01_k».proof.Proof.KernelIdeal.PassBB

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section

variable (c : Dev nD) (i : grid1.Coords) (arg1 : Memref sig .tc .vmem S32000x128 .f32) (harg1 : arg1.IsWhole) (arg2 : Memref sig .tc .vmem S1x1x32000 .i32) (harg2 : arg2.IsWhole) (arg3 : Memref sig .tc .vmem S1x1x32000 .f32) (harg3 : arg3.IsWhole) (arg4 : Memref sig .tc .vmem S32x128 .f32) (harg4 : arg4.IsWhole) (arg5 : Memref sig .tc .vmem S32x1 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S32x1 .f32) (harg8 : arg8.IsWhole)

set_option maxHeartbeats 1000000 in
/-- The body at the last point: it runs from its five input blocks and the scratch the point before left, leaves the means as
    they were, and leaves in the output and the penalties' scratch the stores listed here. -/
noncomputable def kernelRun1_C (hc0 : ¬cond1_0 i) (hc1 : cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) :
    Σ' (L5 : List (View.Piece (Elt F) S8x128 .f32)), Σ' (LS0 : List (View.Piece (Elt F) S32x128 .f32)), { LS1 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc1__pass_b i arg1 harg1 arg2 harg2 arg3 harg3 arg4 harg4 arg5 harg5 arg6 harg6 arg7 harg7 arg8 harg8) K } := by
  refine ⟨?_, [], ?_, fun E K => ?run⟩
  case run =>
    simp only [cc1__pass_b_eq_skeleton]; unfold cc1__pass_b_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _; iexact HS1

end

end Cert.KernelIdeal.Whole

end
-- ==== Proof.KernelIdeal.PassBBody.lean ====
/- The second pass: what each kind of point leaves, and the body at every point. -/
module

public import proofs.«01_k».proof.Proof.KernelIdeal.PassBC

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid1.Coords) (arg1 : Memref sig .tc .vmem S32000x128 .f32) (harg1 : arg1.IsWhole) (arg2 : Memref sig .tc .vmem S1x1x32000 .i32) (harg2 : arg2.IsWhole) (arg3 : Memref sig .tc .vmem S1x1x32000 .f32) (harg3 : arg3.IsWhole) (arg4 : Memref sig .tc .vmem S32x128 .f32) (harg4 : arg4.IsWhole) (arg5 : Memref sig .tc .vmem S32x1 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S32x1 .f32) (harg8 : arg8.IsWhole)

/-- A stand-in for the output at the first point, which stores nothing into it: nothing reads it. -/
def out1_A_5 (hc0 : cond1_0 i) (hc1 : ¬cond1_1 i)
    (x0 : Vec F S32000x128 .f32) (x1 : Vec F S1x1x32000 .i32) (x2 : Vec F S1x1x32000 .f32) (x3 : Vec F S32x128 .f32) (x4 : Vec F S32x1 .f32) : Vec F S8x128 .f32 :=
  VO1_5.read (Elt F) (VO1_5.writes (Elt F) VO1_5.junk (kernelRun1_A c i arg1 harg1 arg2 harg2 arg3 harg3 arg4 harg4 arg5 harg5 arg6 harg6 arg7 harg7 arg8 harg8 hc0 hc1 x0 x1 x2 x3 x4).1)

/-- The stores of the first point cover the means' scratch. -/
theorem scover1_A_0 (hc0 : cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (y : S32x128.Idx) :
    ∃ pc ∈ (kernelRun1_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.1 S32x128.size (by sl_kernel_rfl) y

/-- What the first point leaves in the means' scratch. -/
def sout1_A_0 (hc0 : cond1_0 i) (hc1 : ¬cond1_1 i)
    (x0 : Vec F S32000x128 .f32) (x1 : Vec F S1x1x32000 .i32) (x2 : Vec F S1x1x32000 .f32) (x3 : Vec F S32x128 .f32) (x4 : Vec F S32x1 .f32) : Vec F S32x128 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3 x4).2.1)

/-- The stores of the first point cover the penalties' scratch. -/
theorem scover1_A_1 (hc0 : cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (y : S32x1.Idx) :
    ∃ pc ∈ (kernelRun1_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.2.1 S32x1.size (by sl_kernel_rfl) y

/-- What the first point leaves in the penalties' scratch. -/
def sout1_A_1 (hc0 : cond1_0 i) (hc1 : ¬cond1_1 i)
    (x0 : Vec F S32000x128 .f32) (x1 : Vec F S1x1x32000 .i32) (x2 : Vec F S1x1x32000 .f32) (x3 : Vec F S32x128 .f32) (x4 : Vec F S32x1 .f32) : Vec F S32x1 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2 x3 x4).2.2.1)

/-- A stand-in for the output at a middle point, which stores nothing into it: nothing reads it. -/
def out1_B_5 (hc0 : ¬cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) : Vec F S8x128 .f32 :=
  VO1_5.read (Elt F) (VO1_5.writes (Elt F) VO1_5.junk (kernelRun1_B c i arg1 harg1 arg2 harg2 arg3 harg3 arg4 harg4 arg5 harg5 arg6 harg6 arg7 harg7 arg8 harg8 hc0 hc1 x0 x1 x2 x3 x4 xs0 xs1).1)

/-- A middle point leaves the means' scratch as the point before left it. -/
def sout1_B_0 (c : Dev nD) (i : grid1.Coords) (arg1 : Memref sig .tc .vmem S32000x128 .f32) (harg1 : arg1.IsWhole) (arg2 : Memref sig .tc .vmem S1x1x32000 .i32) (harg2 : arg2.IsWhole) (arg3 : Memref sig .tc .vmem S1x1x32000 .f32) (harg3 : arg3.IsWhole) (arg4 : Memref sig .tc .vmem S32x128 .f32) (harg4 : arg4.IsWhole) (arg5 : Memref sig .tc .vmem S32x1 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S32x1 .f32) (harg8 : arg8.IsWhole) (hc0 : ¬cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) : Vec F S32x128 .f32 := xs0

/-- The stores of a middle point cover the penalties' scratch. -/
theorem scover1_B_1 (hc0 : ¬cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) (y : S32x1.Idx) :
    ∃ pc ∈ (kernelRun1_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0 xs1).2.2.1 S32x1.size (by sl_kernel_rfl) y

/-- What a middle point leaves in the penalties' scratch. -/
def sout1_B_1 (hc0 : ¬cond1_0 i) (hc1 : ¬cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) : Vec F S32x1 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 x3 x4 xs0 xs1).2.2.1)

/-- The stores of the last point cover the output. -/
theorem cover1_C_5 (hc0 : ¬cond1_0 i) (hc1 : cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) (y : S8x128.Idx) :
    ∃ pc ∈ (kernelRun1_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).1 S8x128.size (by sl_kernel_rfl) y

/-- What the last point leaves in the output. -/
def out1_C_5 (hc0 : ¬cond1_0 i) (hc1 : cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) : Vec F S8x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 x3 x4 xs0 xs1).1)

/-- The last point leaves the means' scratch as the point before left it. -/
def sout1_C_0 (c : Dev nD) (i : grid1.Coords) (arg1 : Memref sig .tc .vmem S32000x128 .f32) (harg1 : arg1.IsWhole) (arg2 : Memref sig .tc .vmem S1x1x32000 .i32) (harg2 : arg2.IsWhole) (arg3 : Memref sig .tc .vmem S1x1x32000 .f32) (harg3 : arg3.IsWhole) (arg4 : Memref sig .tc .vmem S32x128 .f32) (harg4 : arg4.IsWhole) (arg5 : Memref sig .tc .vmem S32x1 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S32x1 .f32) (harg8 : arg8.IsWhole) (hc0 : ¬cond1_0 i) (hc1 : cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) : Vec F S32x128 .f32 := xs0

/-- The stores of the last point cover the penalties' scratch. -/
theorem scover1_C_1 (hc0 : ¬cond1_0 i) (hc1 : cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) (y : S32x1.Idx) :
    ∃ pc ∈ (kernelRun1_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).2.2.1 S32x1.size (by sl_kernel_rfl) y

/-- What the last point leaves in the penalties' scratch. -/
def sout1_C_1 (hc0 : ¬cond1_0 i) (hc1 : cond1_1 i)
    (x0 : Vec F S32000x128 .f32) (x1 : Vec F S1x1x32000 .i32) (x2 : Vec F S1x1x32000 .f32) (x3 : Vec F S32x128 .f32) (x4 : Vec F S32x1 .f32) (xs0 : Vec F S32x128 .f32) (xs1 : Vec F S32x1 .f32) : Vec F S32x1 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 x3 x4 xs0 xs1).2.2.1)

end

/-! ## What the outputs hold after each point -/

/-- What the output, the means' scratch and the penalties' scratch hold after point `n`: the first point starts the
    scratch, each later one goes on from the scratch of the point before, and the last one stores the output. -/
def outsAt1 (c : Dev nD) : (n : ℕ) → n < cfg1.N → Vec F S8x128 .f32 × Vec F S32x128 .f32 × Vec F S32x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 10 = 0 then
      if h1 : (n + 1) % 10 = 9 then
        False.elim (by have hN : n + 1 < 10 := lt_of_lt_of_eq hn (show cfg1.N = 10 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 10 = 9 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- The output and the scratch after the first point. -/
theorem outsAt1_A (c : Dev nD) (t : Fin cfg1.N) (h0 : t.val % 10 = 0) (h1 : ¬t.val % 10 = 9) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The output and the scratch after a middle point, from the scratch of the point before. -/
theorem outsAt1_B (c : Dev nD) (t : Fin cfg1.N) (h0 : ¬t.val % 10 = 0) (h1 : ¬t.val % 10 = 9) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The output and the scratch after the last point, from the scratch of the point before. -/
theorem outsAt1_C (c : Dev nD) (t : Fin cfg1.N) (h0 : ¬t.val % 10 = 0) (h1 : t.val % 10 = 9) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What rides beside the windows before point `n`: before the first point the scratch buffers at anything, afterwards at what
    the point before left in them; and the rest. -/
def PhiS (c : Dev nD) : (n : ℕ) → n ≤ cfg1.N → sProp 𝕄
  | 0, _ => Scr c
  | n + 1, hn => iprop(iprop(owns (c : Thread nD τ) scM1_0 fullShare ((outsAt1 V c n hn).2.1) ∗ owns (c : Thread nD τ) scM1_1 fullShare ((outsAt1 V c n hn).2.2)) ∗ Rest c)

/-- Before the first point the scratch is at anything. -/
theorem PhiS_zero (c : Dev nD) (n : ℕ) (h : n ≤ cfg1.N) (hz : n = 0) : PhiS V c n h = Scr c := by
  subst hz; rfl

/-- After point `n` the scratch is at what that point left. -/
theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2)) ∗ Rest c) := rfl

/-- Before a point that is not the first the scratch is at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2)) ∗ Rest c) := by
  cases n with
  | zero => exact absurd rfl hz
  | succ n => rfl

/-! ## The pass for the pipeline -/

/-- The second pass for the pipeline: its arrays as found, each input's buffer left at its block, the output's at `outsAt1`;
    beside them what `PhiS` says. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

/-- Its arrays are those the pass finds. -/
theorem A_eq1 (c : Dev nD) (w : Fin cfg1.W) : (dat1 V c).A w = V c (Pipeline.arrRef spec1 w) := by
  dsimp only [dat1]

/-- What rides beside the windows at the start of point `t`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves in the buffer of the features. -/
theorem after1_0 (c : Dev nD) (t : Fin cfg1.N) : (dat1 V c).after 0 t = iblk1 V c 0 t := by dsimp only [dat1]
/-- What the body leaves in the buffer of the labels. -/
theorem after1_1 (c : Dev nD) (t : Fin cfg1.N) : (dat1 V c).after 1 t = iblk1 V c 1 t := by dsimp only [dat1]
/-- What the body leaves in the buffer of the squared norms. -/
theorem after1_2 (c : Dev nD) (t : Fin cfg1.N) : (dat1 V c).after 2 t = iblk1 V c 2 t := by dsimp only [dat1]
/-- What the body leaves in the buffer of the sums. -/
theorem after1_3 (c : Dev nD) (t : Fin cfg1.N) : (dat1 V c).after 3 t = iblk1 V c 3 t := by dsimp only [dat1]
/-- What the body leaves in the buffer of the counts. -/
theorem after1_4 (c : Dev nD) (t : Fin cfg1.N) : (dat1 V c).after 4 t = iblk1 V c 4 t := by dsimp only [dat1]
/-- What the body leaves in the buffer of the output. -/
theorem after1_5 (c : Dev nD) (t : Fin cfg1.N) : (dat1 V c).after 5 t = (outsAt1 V c t.val t.isLt).1 := by dsimp only [dat1]

/-- The buffer of the features holds the point's block when the body starts. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
/-- The buffer of the labels holds the point's block when the body starts. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
/-- The buffer of the squared norms holds the point's block when the body starts. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl
/-- The buffer of the sums holds the point's block when the body starts. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; rfl) t d).trans rfl
/-- The buffer of the counts holds the point's block when the body starts. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; rfl) t d).trans rfl

/-! ## The body at every point -/

/-- What the body is handed at point `t`: every window's buffer at what it holds before the body, and what rides beside. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What the body gives back: every window's buffer at what it leaves, and what rides beside. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 9600000 in
/-- At every point the body runs from what it is handed to what it gives back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare (iblk1 V c 0 t) from by
    unfold Dat.leavesExact; rw [liveAt1_0 t, after1_0]]
  rw [show (dat1 V c).leavesExact 1 t = owns (c : Thread nD τ) (ms1_1 t) fullShare (iblk1 V c 1 t) from by
    unfold Dat.leavesExact; rw [liveAt1_1 t, after1_1]]
  rw [show (dat1 V c).leavesExact 2 t = owns (c : Thread nD τ) (ms1_2 t) fullShare (iblk1 V c 2 t) from by
    unfold Dat.leavesExact; rw [liveAt1_2 t, after1_2]]
  rw [show (dat1 V c).leavesExact 3 t = owns (c : Thread nD τ) (ms1_3 t) fullShare (iblk1 V c 3 t) from by
    unfold Dat.leavesExact; rw [liveAt1_3 t, after1_3]]
  rw [show (dat1 V c).leavesExact 4 t = owns (c : Thread nD τ) (ms1_4 t) fullShare (iblk1 V c 4 t) from by
    unfold Dat.leavesExact; rw [liveAt1_4 t, after1_4]]
  have hN : t.val < 10 := lt_of_lt_of_eq t.isLt (show cfg1.N = 10 from N_1)
  by_cases h0 : t.val % 10 = 0
  · by_cases h1 : t.val % 10 = 9
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      by_cases hz : t.val = 0
      · rw [PhiS_castSucc V c t, PhiS_zero V c _ _ hz, Scr]
        rw [outsAt1_A V c t h0 h1]
        unfold sout1_A_0 sout1_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 10 = 9
    · rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      by_cases hz : t.val = 0
      · exfalso; omega
      · rw [PhiS_castSucc V c t, PhiS_pos V c _ _ hz]
        rw [outsAt1_C V c t h0 h1]
        unfold out1_C_5 sout1_C_0 sout1_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover1_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      by_cases hz : t.val = 0
      · exfalso; omega
      · rw [PhiS_castSucc V c t, PhiS_pos V c _ _ hz]
        rw [outsAt1_B V c t h0 h1]
        unfold sout1_B_0 sout1_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover1_B_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body the pipeline calls at point `t` is the printed one on that point's buffers. -/
theorem defs₀_row1 (t : Fin cfg1.N) :
    defs₀ (F := F) .tc cfg1.body (cfg1.bodyArgs t (cfg1.slots t)) = bodyAt1 t := by
  unfold defs₀; rw [Defs.onTc_tc]

/-- The second pass meets the pipeline's condition on its body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the pass is what rides beside the windows before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  exact Scr_of_ΦA c

/-- After any point what rides beside the windows gives back what the launch handed over. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  have h : iprop(iprop(owns (c : Thread nD τ) scM1_0 fullShare ((outsAt1 V c (t.val - 1) (by omega)).2.1) ∗ owns (c : Thread nD τ) scM1_1 fullShare ((outsAt1 V c (t.val - 1) (by omega)).2.2)) ∗ Rest c) ⊢ Scr c := by
    unfold Scr
    iintro ⟨⟨HS0, HS1⟩, Hg⟩
    isplitl [HS0 HS1]
    · isplitl [HS0]
      · iexists _; iexact HS0
      iexists _; iexact HS1
    iexact Hg
  exact h.trans (ΦA_of_Scr c)

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Whole

end
-- ==== Proof.KernelIdeal.Run.lean ====
/- The run of @main: a reshape, the two passes, the read of the result. -/
module

public import proofs.«01_k».proof.Proof.KernelIdeal.PassA
public import proofs.«01_k».proof.Proof.KernelIdeal.PassBBody
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program segment by segment -/

/-- The arrays of the two arguments. -/
abbrev argRefs : List (Ref sig .tc) := [main_arg0, main_arg1]

/-- The reshape before the passes writes no argument. -/
theorem hostOps0_args : ∀ a ∈ argRefs, a ∉ hostOps0_W := ListAll.forall_mem_of_all_decide (by decide +kernel)

/-- The operations after the passes write no argument. -/
theorem hostOps2_args : ∀ a ∈ argRefs, a ∉ hostOps2_W := ListAll.forall_mem_of_all_decide (by decide +kernel)

/-! ## What the buffers hold between the segments -/

/-- The buffers at launch. -/
abbrev W0 : Dev nD → Valuation τ sig (Elt F) := fun c b => (s₀ m ρ).mem ((c : Dev nD), b)
/-- At launch the arguments are as given. -/
theorem W0_args (c : Dev nD) : ∀ a ∈ argRefs, W0 m ρ c (Proc.devRef .tc a) = m ((c : Thread nD τ).loc a) := fun _ _ => rfl
/-- The buffers when the first pass starts. -/
abbrev W1 : Dev nD → Valuation τ sig (Elt F) := fun c => StableHlo.after hostOps0 (W0 m ρ c)
/-- What the reshape does not write is as at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- When the first pass starts the arguments are as given. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, for the first pass's windows to read. -/
abbrev V1 : (c : Dev nD) → (b : Ref sig .tc) → Buf (Elt F) ((c : Thread nD τ).loc b) := fun c b => W1 m ρ c b
/-- The buffers between the passes: the first pass's arrays as it leaves them, the others as it found them. -/
def W2 (c : Dev nD) : Valuation τ sig (Elt F) :=
  Pipeline.withArrays spec0 c (W1 m ρ c) fun w => (dat0 (V1 m ρ) c).arrAt w cfg0.N
/-- Between the passes an array of the first pass holds what that pass left. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Between the passes any other buffer is as before the first. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What the first pass does not write back is as that pass found it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- The first pass only reads the arguments. -/
theorem argsIn0 : ∀ a ∈ argRefs, ∀ w : Fin cfg0.W, Pipeline.arrRef spec0 w = a → (cfg0.win w).isOut = false :=
  ListAll.forall_mem_of_all_decide (by decide +kernel)
/-- Between the passes the arguments are as given. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, for the second pass's windows to read. -/
abbrev V2 : (c : Dev nD) → (b : Ref sig .tc) → Buf (Elt F) ((c : Thread nD τ).loc b) := fun c b => W2 m ρ c b
/-- The first pass's arrays when it ends. -/
theorem hF0 (c : Dev nD) (w : Fin cfg0.W) : (dat0 (V1 m ρ) c).arrAt w cfg0.N = V2 m ρ c (Pipeline.arrRef spec0 w) :=
  (W2_arr m ρ c w).symm
/-- The buffers that are not the first pass's arrays are as before it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the passes: the second pass's arrays as it leaves them, the others as it found them. -/
def W3 (c : Dev nD) : Valuation τ sig (Elt F) :=
  Pipeline.withArrays spec1 c (W2 m ρ c) fun w => (dat1 (V2 m ρ) c).arrAt w cfg1.N
/-- After the passes an array of the second pass holds what that pass left. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- After the passes any other buffer is as before the second. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- What the second pass does not write back is as that pass found it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- The second pass only reads the arguments. -/
theorem argsIn1 : ∀ a ∈ argRefs, ∀ w : Fin cfg1.W, Pipeline.arrRef spec1 w = a → (cfg1.win w).isOut = false :=
  ListAll.forall_mem_of_all_decide (by decide +kernel)
/-- After the passes the arguments are as given. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, by the arrays' names. -/
abbrev V3 : (c : Dev nD) → (b : Ref sig .tc) → Buf (Elt F) ((c : Thread nD τ).loc b) := fun c b => W3 m ρ c b
/-- The second pass's arrays when it ends. -/
theorem hF1 (c : Dev nD) (w : Fin cfg1.W) : (dat1 (V2 m ρ) c).arrAt w cfg1.N = V3 m ρ c (Pipeline.arrRef spec1 w) :=
  (W3_arr m ρ c w).symm
/-- The buffers that are not the second pass's arrays are as before it. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers at the end. -/
abbrev W4 : Dev nD → Valuation τ sig (Elt F) := fun c => StableHlo.after hostOps2 (W3 m ρ c)
/-- What the operations after the passes do not write is as the second pass left it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end the arguments are as given. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## What is held between the segments -/

/-- The two passes for the pipeline, each from the buffers it finds. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop needs a variant. -/
abbrev 𝒱₀ : Variants := Variants.none
/-- No core owes another anything. -/
abbrev L : GSem nD τ sig → Finset Unit := fun _ => ∅
/-- No level is needed. -/
abbrev lv : GSem nD τ sig → Unit → ℕ := fun _ _ => 0
/-- What rides beside the buffers throughout: the generator register at some state, and nothing owed. -/
abbrev R (c : Dev nD) : sProp 𝕄 := iprop((∃ r, prngReg c r) ∗ ∃ W, owes (c : Thread nD τ) (0 : CellTallies nD τ sig Unit) W)
/-- A stretch of operations outside the passes, from the buffers `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that lives through the launch is among those held between the passes. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The end: every buffer at `W4`, and the generator register at some state. -/
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- The first pass as a segment of the run: from the buffers `W1` to the buffers `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass as a segment of the run: from the buffers `W2` to the buffers `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

/-- The last stretch ends with every buffer at `W4` and nothing owed. -/
theorem last_post (c : Dev nD) :
    iprop(StableHlo.held (c : Thread nD τ) (Pipeline.ucRefs τ sig) (W4 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- The run as four segments: the reshape, the two passes, the operations after them. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of these segments. -/
theorem main_run (c : Dev nD) : main (F := F) c = Pipeline.Seg.run (segs m ρ) := (main_chain c).trans (by chain_rfl)

set_option backward.isDefEq.respectTransparency.types false in
/-- The kernel runs to the end from every memory; the arguments end as given, the result ends as in `W4`, and every
    counter ends at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v4) = W4 m ρ c (Proc.devRef .tc main_v4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_args m ρ c main_arg0 (by decide)),
       (h c _ (mem_uc main_arg1 (by decide))).trans (W4_args m ρ c main_arg1 (by decide)),
       h c _ (mem_uc main_v4 (by decide))⟩), funext fun g => hz g (.inr (regions_no_unscoped g.2))⟩)

/-- The kernel runs to the end from every memory, and the arguments end as given. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run m ρ)

end Cert.KernelIdeal.Whole

end
-- ==== Proof.Transfer.lean ====
module

public import proofs.«01_k».proof.Proof.KernelIdeal.Run
public import proofs.«01_k».proof.Proof.Gen.Kernel

@[expose] public section

set_option maxRecDepth 16384

/-! The kernel as printed and the kernel over the reals are the same program, so the run of the one is the run of the other. -/

namespace Cert.Transfer

open Idealize.ShloMosaic Idealize.ShloMosaic.TcCoe Idealize.SL.Sem Idealize.ShloMosaic.Tactic

variable {F : FTy → Type} [FloatOps F]

/-- Both printings have the same kernel bodies. -/
theorem defs_eq : Cert.Kernel.defs (F := F) = Cert.KernelIdeal.defs (F := F) := by sl_kernel_rfl

/-- Both printings have the same main program. -/
theorem main_eq : Cert.Kernel.main (F := F) = Cert.KernelIdeal.main (F := F) := by sl_kernel_rfl

/-- The printed kernel runs to the end from every memory, and the arguments end as given. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact Cert.KernelIdeal.Whole.frame m g

end Cert.Transfer

end
-- ==== Proof.Words.lean ====
module

public import Idealize.ShloMosaic.Lib.Pointwise
public import Idealize.ShloMosaic.Lib.IdealHost

@[expose] public section

noncomputable section

/-! The constants of the two programs as real numbers, and the operations on extended reals that are finite. -/

namespace Cert.Words

open Idealize.ShloMosaic

/-- The word of two. -/
theorem two : Ideal.ofBits .f32 0x40000000#32 = ((2 : ℝ) : EReal) := by
  simp [Ideal.ofBits, Ideal.ieee, -EReal.coe_mul]; norm_num
/-- The word of one half. -/
theorem half : Ideal.ofBits .f32 0x3F000000#32 = ((1 / 2 : ℝ) : EReal) := by
  simp [Ideal.ofBits, Ideal.ieee, -EReal.coe_mul]; norm_num
/-- The word of three. -/
theorem three : Ideal.ofBits .f32 0x40400000#32 = ((3 : ℝ) : EReal) := by
  simp [Ideal.ofBits, Ideal.ieee, -EReal.coe_mul]; norm_num
/-- The word of thirty-two. -/
theorem w32 : Ideal.ofBits .f32 0x42000000#32 = ((32 : ℝ) : EReal) := by
  simp [Ideal.ofBits, Ideal.ieee, -EReal.coe_mul]; norm_num
/-- The word of the number of ordered pairs of distinct clusters. -/
theorem w992 : Ideal.ofBits .f32 0x44780000#32 = ((992 : ℝ) : EReal) := by
  simp [Ideal.ofBits, Ideal.ieee, -EReal.coe_mul]; norm_num
/-- The guard of the reciprocal root is positive and at most one quarter. -/
theorem guard : ∃ e : ℝ, 0 < e ∧ e ≤ 1 / 4 ∧ Ideal.ofBits .f32 0x2B8CBCCC#32 = (e : EReal) := by
  refine ⟨_, ?_, ?_, by simp [Ideal.ofBits, Ideal.ieee, -EReal.coe_mul]; rfl⟩ <;> norm_num
/-- The weight of the regularization is a real number. -/
theorem weight : ∃ w : ℝ, Ideal.ofBits .f32 0x3A83126F#32 = (w : EReal) := by
  exact ⟨_, by simp [Ideal.ofBits, Ideal.ieee, -EReal.coe_mul]; rfl⟩

/-- The guard of the reciprocal root. -/
def eps : ℝ := guard.choose

/-- It is positive. -/
theorem eps_pos : 0 < eps := guard.choose_spec.1

/-- It is at most one quarter. -/
theorem eps_le : eps ≤ 1 / 4 := guard.choose_spec.2.1

/-- It is what its word says. -/
theorem eps_word : Ideal.ofBits .f32 0x2B8CBCCC#32 = (eps : EReal) := guard.choose_spec.2.2

/-- The weight of the regularization. -/
def wt : ℝ := weight.choose

/-- It is what its word says. -/
theorem wt_word : Ideal.ofBits .f32 0x3A83126F#32 = (wt : EReal) := weight.choose_spec

/-- The four numbers of the result from its parts. -/
def fourth (v p r : ℝ) (k : Fin 4) : ℝ := ![v + p + wt * r, v, p, r] k

/-- A finite sum of reals is the real sum. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The maximum of two reals. -/
theorem coe_max (x y : ℝ) : max (x : EReal) (y : EReal) = ((max x y : ℝ) : EReal) :=
  (EReal.coe_strictMono.monotone.map_max).symm

/-- The maximum of a real and zero. -/
theorem coe_max_zero (x : ℝ) : max (x : EReal) 0 = ((max x 0 : ℝ) : EReal) := coe_max x 0

/-- The quotient by a nonzero real. -/
theorem coe_div (x : ℝ) {y : ℝ} (h : y ≠ 0) : Ideal.div (x : EReal) (y : EReal) = ((x / y : ℝ) : EReal) := by
  rw [Ideal.div_coe h, ← EReal.coe_mul, mul_one_div]

/-- The root of a nonnegative real. -/
theorem coe_sqrt {x : ℝ} (h : 0 ≤ x) : Ideal.sqrt (x : EReal) = ((√x : ℝ) : EReal) := by
  rw [Ideal.sqrt_coe, if_neg (not_lt.mpr h)]

/-- The reciprocal root of a positive real. -/
theorem coe_rsqrt {x : ℝ} (h : 0 < x) : Ideal.rsqrt (x : EReal) = (((√x)⁻¹ : ℝ) : EReal) := by
  rw [Ideal.rsqrt_coe, if_neg (not_lt.mpr h.le), if_neg h.ne']

/-- A choice between two reals. -/
theorem coe_ite (p : Prop) [Decidable p] (x y : ℝ) : (if p then (x : EReal) else (y : EReal)) = ((if p then x else y : ℝ) : EReal) := by
  split <;> rfl

/-- The one-bit comparison of two words, widened and read as a number, is one where they agree and zero elsewhere. -/
theorem bit_word (x y : BitVec 32) :
    (FloatOps.sitofp .f32 (BitVec.setWidth 32 (IntOp.cmpi .eq x y)) : Ideal .f32) = ((if x = y then 1 else 0 : ℝ) : EReal) := by
  have e : IntOp.cmpi .eq x y = if x = y then 1#1 else 0#1 := by
    by_cases h : x = y
    · subst h; simp [IntOp.cmpi]
    · rw [if_neg h]; simp only [IntOp.cmpi]; rw [beq_eq_false_iff_ne.mpr h]; rfl
  rw [e]
  by_cases h : x = y
  · rw [if_pos h, if_pos h]; show (((BitVec.setWidth 32 1#1).toInt : ℝ) : EReal) = _; norm_num
  · rw [if_neg h, if_neg h]; show (((BitVec.setWidth 32 0#1).toInt : ℝ) : EReal) = _; norm_num

/-- A selection by the comparison of two cluster numbers below thirty-two. -/
theorem select_word {α : Type} (a b : Fin 32) (x y : α) :
    Scalar.select (IntOp.cmpi .eq (BitVec.ofNat 32 a.val) (BitVec.ofNat 32 b.val)) x y = if a = b then x else y := by
  have hab : BitVec.ofNat 32 a.val = BitVec.ofNat 32 b.val ↔ a = b := by
    constructor
    · intro h
      have := congrArg BitVec.toNat h
      simp only [BitVec.toNat_ofNat] at this
      have ha := a.isLt
      have hb := b.isLt
      apply Fin.ext
      omega
    · rintro rfl; rfl
  by_cases h : a = b
  · subst h; simp [Scalar.select, IntOp.cmpi]
  · have h' := fun e => h (hab.mp e)
    rw [if_neg h]; simp only [IntOp.cmpi]; rw [beq_eq_false_iff_ne.mpr h']; rfl

end Cert.Words
-- ==== Proof.Pre.lean ====
module

public import proofs.«01_k».proof.Pre_finite_and_present
public import proofs.«01_k».proof.Proof.Words
public import Idealize.ShloMosaic.Lib.Routing.OpsOrder
public import Idealize.ShloMosaic.Lib.Pointwise

@[expose] public section

set_option maxRecDepth 16384

noncomputable section

/-! What the precondition says: every feature is a real number, and every one of the 32 words is somewhere a label. -/

namespace Cert.Pre

open Idealize.ShloMosaic Cert.Pre_finite_and_present Cert.Pre_finite_and_present.Facts

variable [Facts] (X : FVec Ideal S320000x128 .f32) (L : IVec S320000 32)

/-- The conjunction of two bits is set exactly when both are. -/
theorem and_bit (x y : BitVec 1) : IntOp.andi x y = 1#1 ↔ x = 1#1 ∧ y = 1#1 := by
  revert x y
  decide

/-- A conjunction of bits that is set has every bit set. -/
theorem fold_and {ι : Type} {_ : Fintype ι} (p : ι → BitVec 1) (h : Finset.fold IntOp.andi (1#1) p Finset.univ = 1#1) (x : ι) :
    p x = 1#1 := by
  classical
  suffices H : ∀ s : Finset ι, Finset.fold IntOp.andi (1#1) p s = 1#1 → ∀ x ∈ s, p x = 1#1 from H _ h x (Finset.mem_univ x)
  intro s
  induction s using Finset.induction_on with
  | empty => exact fun _ x hx => absurd hx (Finset.notMem_empty x)
  | insert a s ha ih =>
    rw [Finset.fold_insert ha, and_bit]
    rintro h x hx
    rcases Finset.mem_insert.1 hx with rfl | hx
    · exact h.1
    · exact ih h.2 x hx

/-- A value whose magnitude is below infinity is a real number. -/
theorem real_of_abs (x : EReal) (h : BitVec.ofBool (decide (FloatOps.absf (F := Ideal) (φ := .f32) x < Ideal.ofBits FTy.f32 0x7F800000#32)) = 1#1) :
    x = ((x.toReal : ℝ) : EReal) := by
  have hi : Ideal.ofBits FTy.f32 0x7F800000#32 = (⊤ : EReal) := by
    simp [Ideal.ofBits, Ideal.ieee]
  have hx : max x (-x) < ⊤ := by
    rw [hi] at h
    by_contra hn
    rw [show decide (FloatOps.absf (F := Ideal) (φ := .f32) x < ⊤) = false from decide_eq_false hn] at h
    exact absurd h (by decide)
  refine (EReal.coe_toReal ?_ ?_).symm <;> rintro rfl
  · exact absurd (lt_of_le_of_lt (le_max_left _ _) hx) (lt_irrefl _)
  · exact absurd (lt_of_le_of_lt (le_max_right _ _) hx) (by rw [EReal.neg_bot]; exact lt_irrefl _)

/-- Under the precondition every feature is a real number. -/
theorem features_real (h : fn X L = fun _ => 1#1) (p : Fin 320000) (d : Fin 128) :
    X (ix2 p d) = (((X (ix2 p d) : EReal).toReal : ℝ) : EReal) := by
  have h := congrFun h (ix1 (0 : Fin 32))
  unfold fn at h
  pointwise at h
  obtain ⟨h, -⟩ := (and_bit _ _).1 h
  have h := fold_and _ h (p, d)
  exact real_of_abs _ h

/-- Under the precondition every one of the 32 words labels a point. -/
theorem words_present (h : fn X L = fun _ => 1#1) (a : Fin 32) : ∃ p : Fin 320000, L (ix1 p) = BitVec.ofNat 32 a.val := by
  have h := congrFun h (ix1 a)
  unfold fn at h
  pointwise at h
  obtain ⟨p, -, hp⟩ := (Routing.fold_ori _ _).1 ((and_bit _ _).1 h).2
  refine ⟨p, ?_⟩
  by_contra hne
  rw [show IntOp.cmpi CmpIPredicate.eq (L (ix1 p)) (BitVec.ofNat 32 a.val) = 0#1 from by
    show BitVec.ofBool (L (ix1 p) == BitVec.ofNat 32 a.val) = 0#1
    rw [beq_false_of_ne hne]
    rfl] at hp
  exact absurd hp (by decide)

end Cert.Pre
-- ==== Proof.ReferenceParts.lean ====
module

public import proofs.«01_k».proof.Proof.Gen.ReferenceIdeal.Run
public import Idealize.ShloMosaic.Lib.Pointwise

@[expose] public section

set_option maxRecDepth 16384

noncomputable section

/-! The reference's result in parts: counts, means, the points' hinges, the pairs' hinges, and the four numbers made of them. -/

namespace Cert.ReferenceIdeal.Value

open Cert.ReferenceIdeal Cert.ReferenceIdeal.Gen Idealize.ShloMosaic Idealize.ShloMosaic.TcCoe

variable (X : FVec Ideal S320000x128 .f32) (L : IVec S320000 32)

/-- The labels as scatter indices. -/
abbrev rows : IVec S320000x1 32 := broadcastInDim S320000x1 ![0] bcast_S320000_S320000x1_0 L

/-- The clusters' counts. -/
def counts : FVec Ideal S32 .f32 :=
  Host.scatterAdd scatter_S32_S320000x1_S320000_n_0_0_1 (broadcastInDim S32 ![] bcast_S_S32 (constant S_ .f32 0x00000000#32)) (rows L)
    (broadcastInDim S320000 ![] bcast_S_S320000 (constant S_ .f32 0x3F800000#32))

/-- The clusters' means. -/
def means : FVec Ideal S32x128 .f32 :=
  Host.divf (Host.scatterAdd scatter_S32x128_S320000x1_S320000x128_1_0_0_1
      (broadcastInDim S32x128 ![] bcast_S_S32x128 (constant S_ .f32 0x00000000#32)) (rows L) X)
    (broadcastInDim S32x128 ![0, 1] bcast_S32x1_S32x128_0_1 (broadcastInDim S32x1 ![0] bcast_S32_S32x1_0 (counts L)))

/-- The row of means each point reads. -/
def wrapped : IVec S320000x1 32 :=
  broadcastInDim S320000x1 ![0] bcast_S320000_S320000x1_0
    (select (cmpi .slt L (broadcastInDim S320000 ![] bcast_S_S320000 (constantI S_ 32 0#32)))
      (addi L (broadcastInDim S320000 ![] bcast_S_S320000 (constantI S_ 32 32#32))) L)

/-- Each point's offset from the mean it reads. -/
def offset (M : FVec Ideal S32x128 .f32) : FVec Ideal S320000x128 .f32 :=
  subf X (Host.gather gather_S32x128_S320000x1_S320000x128_1_0_n_n_0_1_1128 M (wrapped L))

/-- The hinge of each point's distance. -/
def hinge (O : FVec Ideal S320000x128 .f32) : FVec Ideal S320000 .f32 :=
  maximumf (subf (Host.sqrt (Host.reduceAdd (mulf O O) (constant S_ .f32 0x00000000#32) reducesTo_S320000x128_S320000_d1 h_S_))
    (broadcastInDim S320000 ![] bcast_S_S320000 (constant S_ .f32 0x3F000000#32)))
    (broadcastInDim S320000 ![] bcast_S_S320000 (constant S_ .f32 0x00000000#32))

/-- The variance part, of the points' hinges and the counts. -/
def varPart (H : FVec Ideal S320000 .f32) (N : FVec Ideal S32 .f32) : FVec Ideal S_ .f32 :=
  Host.divf (Host.reduceAdd (Host.divf (Host.scatterAdd scatter_S32_S320000x1_S320000_n_0_0_1
      (broadcastInDim S32 ![] bcast_S_S32 (constant S_ .f32 0x00000000#32)) (rows L) (mulf H H)) N)
    (constant S_ .f32 0x00000000#32) reducesTo_S32_S_d0 h_S_) (constant S_ .f32 0x42000000#32)

/-- The mask of the diagonal. -/
def diag : IVec S32x32 1 :=
  cmpi .eq (addi (iotaInDim S32x32 32 0) (broadcastInDim S32x32 ![] bcast_S_S32x32 (constantI S_ 32 0#32))) (iotaInDim S32x32 32 1)

/-- The offset of each pair of means. -/
def between (M : FVec Ideal S32x128 .f32) : FVec Ideal S32x32x128 .f32 :=
  subf (broadcastInDim S32x32x128 ![0, 1, 2] bcast_S32x1x128_S32x32x128_0_1_2 (broadcastInDim S32x1x128 ![0, 2] bcast_S32x128_S32x1x128_0_2 M))
    (broadcastInDim S32x32x128 ![0, 1, 2] bcast_S1x32x128_S32x32x128_0_1_2 (broadcastInDim S1x32x128 ![1, 2] bcast_S32x128_S1x32x128_1_2 M))

/-- The squared distance of each pair of means, one on the diagonal. -/
def gaps (D : FVec Ideal S32x32x128 .f32) : FVec Ideal S32x32 .f32 :=
  select diag (broadcastInDim S32x32 ![] bcast_S_S32x32 (id (constant S_ .f32 0x3F800000#32)))
    (Host.reduceAdd (mulf D D) (constant S_ .f32 0x00000000#32) reducesTo_S32x32x128_S32x32_d2 h_S_)

/-- The hinge of each pair of means. -/
def shove (G : FVec Ideal S32x32 .f32) : FVec Ideal S32x32 .f32 :=
  maximumf (subf (broadcastInDim S32x32 ![] bcast_S_S32x32 (constant S_ .f32 0x40400000#32)) (Host.sqrt G))
    (broadcastInDim S32x32 ![] bcast_S_S32x32 (constant S_ .f32 0x00000000#32))

/-- The distance part, of the hinges of the pairs. -/
def distPart (S : FVec Ideal S32x32 .f32) : FVec Ideal S_ .f32 :=
  Host.divf (Host.reduceAdd (select diag (broadcastInDim S32x32 ![] bcast_S_S32x32 (id (constant S_ .f32 0x00000000#32))) (mulf S S))
    (constant S_ .f32 0x00000000#32) reducesTo_S32x32_S_d0_1 h_S_) (constant S_ .f32 0x44780000#32)

/-- The regularization part, of the means. -/
def regPart (M : FVec Ideal S32x128 .f32) : FVec Ideal S_ .f32 :=
  Host.divf (Host.reduceAdd (Host.sqrt (Host.reduceAdd (mulf M M) (constant S_ .f32 0x00000000#32) reducesTo_S32x128_S32_d1 h_S_))
    (constant S_ .f32 0x00000000#32) reducesTo_S32_S_d0 h_S_) (constant S_ .f32 0x42000000#32)

/-- The loss and its three parts as one vector. -/
def stacked (v p r : FVec Ideal S_ .f32) : FVec Ideal S4 .f32 :=
  concatenate S4 0 [⟨S1, broadcastInDim S1 ![] bcast_S_S1 (addf (addf (mulf (constant S_ .f32 0x3F800000#32) v) (mulf (constant S_ .f32 0x3F800000#32) p))
      (mulf (constant S_ .f32 0x3A83126F#32) r))⟩, ⟨S1, broadcastInDim S1 ![] bcast_S_S1 v⟩, ⟨S1, broadcastInDim S1 ![] bcast_S_S1 p⟩,
    ⟨S1, broadcastInDim S1 ![] bcast_S_S1 r⟩] concatenates_S1_S1_S1_S1_S4_d0

/-- The reference's result is made of these parts. -/
theorem res_eq (m : (ℓ : Loc nD τ sig) → Buf (Elt Ideal) ℓ) (c : Dev nD) :
    res_main_v68 m c = stacked
      (varPart (m ((c.tc : Thread nD τ).loc main_arg1)) (hinge (offset (m ((c.tc : Thread nD τ).loc main_arg0)) (m ((c.tc : Thread nD τ).loc main_arg1))
        (means (m ((c.tc : Thread nD τ).loc main_arg0)) (m ((c.tc : Thread nD τ).loc main_arg1))))) (counts (m ((c.tc : Thread nD τ).loc main_arg1))))
      (distPart (shove (gaps (between (means (m ((c.tc : Thread nD τ).loc main_arg0)) (m ((c.tc : Thread nD τ).loc main_arg1)))))))
      (regPart (means (m ((c.tc : Thread nD τ).loc main_arg0)) (m ((c.tc : Thread nD τ).loc main_arg1)))) := by
  rfl

end Cert.ReferenceIdeal.Value
-- ==== Proof.Loss.lean ====
module

public import Idealize.ShloMosaic.Lib.Pointwise

@[expose] public section

noncomputable section

/-! The discriminative loss over the real numbers, in its plain form and in the form the kernel computes. -/

namespace Cert.Loss

variable {P : Type} [Fintype P] (f : P → Fin 128 → ℝ) (lab : P → BitVec 32) (mu : Fin 32 → Fin 128 → ℝ)

/-- One where point `p` carries label `a`, zero elsewhere. -/
def hit (p : P) (a : Fin 32) : ℝ := if lab p = BitVec.ofNat 32 a.val then 1 else 0

/-- The sum of the features of cluster `a` along `d`. -/
def total (a : Fin 32) (d : Fin 128) : ℝ := ∑ p, hit lab p a * f p d

/-- The number of points of cluster `a`. -/
def count (a : Fin 32) : ℝ := ∑ p, hit lab p a

/-- The mean of cluster `a` along `d`. -/
def mean (a : Fin 32) (d : Fin 128) : ℝ := total f lab a d / count lab a

/-- The squared distance of point `p` from the centre `mu a`. -/
def away (p : P) (a : Fin 32) : ℝ := ∑ d, (f p d - mu a d) * (f p d - mu a d)

/-- The squared hinge of a distance from its cluster's centre, at margin one half. -/
def pull (x : ℝ) : ℝ := max (x - 1 / 2) 0 * max (x - 1 / 2) 0

/-- The variance part: per cluster the mean of its points' squared hinges, then the mean over the clusters. -/
def variance : ℝ := (∑ a, (∑ p, hit lab p a * pull (√(away f mu p a))) / count lab a) / 32

/-- The squared distance of two centres, one on the diagonal. -/
def apart (a b : Fin 32) : ℝ := if a = b then 1 else ∑ d, (mu a d - mu b d) * (mu a d - mu b d)

/-- The squared hinge of two centres' distance at margin three, zero on the diagonal. -/
def push (x : ℝ) (a b : Fin 32) : ℝ := if a = b then 0 else max (3 - √x) 0 * max (3 - √x) 0

/-- The distance part: the mean of the squared hinges over ordered pairs of distinct centres. -/
def distance : ℝ := (∑ a, ∑ b, push (apart mu a b) a b) / 992

/-- The squared norm of centre `a`. -/
def norm2 (a : Fin 32) : ℝ := ∑ d, mu a d * mu a d

/-- The regularization part: the mean norm of the centres. -/
def spread : ℝ := (∑ a, √(norm2 mu a)) / 32

/-! ## The kernel's forms -/

/-- The squared distance of point `p` from its own centre, by the expansion of the square with the centre picked by a
    sum over all clusters, cut off below at zero. -/
def near (p : P) : ℝ :=
  max ((∑ d, f p d * f p d) + ∑ a, hit lab p a * (norm2 mu a - 2 * ∑ d, mu a d * f p d)) 0

/-- The square root of `x` as `x` times a reciprocal root, guarded by `e`. -/
def root (e x : ℝ) : ℝ := x * (√(max x e))⁻¹

/-- The inner product of two centres. -/
def gram (a b : Fin 32) : ℝ := ∑ d, mu a d * mu b d

/-- The squared distance of two centres from their inner products, one on the diagonal. -/
def apartGram (a b : Fin 32) : ℝ :=
  if a = b then 1 else max ((∑ b', if a = b' then gram mu a b' else 0) + (∑ a', if a' = b then gram mu a' b else 0) - 2 * gram mu a b) 0

/-- The indicator is zero or one. -/
theorem hit_cases (p : P) (a : Fin 32) : hit lab p a = 0 ∨ hit lab p a = 1 := by
  unfold hit; split <;> simp

/-- Distinct clusters have distinct label words. -/
theorem word_inj {a b : Fin 32} (h : BitVec.ofNat 32 a.val = BitVec.ofNat 32 b.val) : a = b := by
  have := congrArg BitVec.toNat h
  simp only [BitVec.toNat_ofNat] at this
  have ha := a.isLt
  have hb := b.isLt
  apply Fin.ext
  omega

/-- A sum over the clusters weighted by the indicator of a point of cluster `a` is the term at `a`. -/
theorem sum_hit {p : P} {a : Fin 32} (h : lab p = BitVec.ofNat 32 a.val) (y : Fin 32 → ℝ) :
    ∑ b, hit lab p b * y b = y a := by
  have e : ∀ b, hit lab p b = if a = b then 1 else 0 := by
    intro b
    unfold hit
    rw [h]
    by_cases hb : a = b
    · subst hb; simp
    · rw [if_neg hb, if_neg fun h' => hb (word_inj h')]
  simp only [e, ite_mul, one_mul, zero_mul, Finset.sum_ite_eq, Finset.mem_univ, if_true]

/-- A squared distance is not negative. -/
theorem away_nonneg (p : P) (a : Fin 32) : 0 ≤ away f mu p a :=
  Finset.sum_nonneg fun d _ => mul_self_nonneg _

/-- The kernel's squared distance of a point of cluster `a` is the plain one. -/
theorem near_eq {p : P} {a : Fin 32} (h : lab p = BitVec.ofNat 32 a.val) : near f lab mu p = away f mu p a := by
  unfold near
  rw [sum_hit lab h]
  have : (∑ d, f p d * f p d) + (norm2 mu a - 2 * ∑ d, mu a d * f p d) = away f mu p a := by
    unfold norm2 away
    rw [Finset.mul_sum, ← Finset.sum_sub_distrib, ← Finset.sum_add_distrib]
    exact Finset.sum_congr rfl fun d _ => by ring
  rw [this]
  exact max_eq_left (away_nonneg f mu p a)

/-- Below the guard both roots are at most one half, so the hinge does not tell them apart. -/
theorem pull_root {e x : ℝ} (he : 0 < e) (he' : e ≤ 1 / 4) (hx : 0 ≤ x) : pull (root e x) = pull (√x) := by
  by_cases h : e ≤ x
  · have hr : root e x = √x := by
      unfold root
      rw [max_eq_left h, ← div_eq_mul_inv, Real.div_sqrt]
    rw [hr]
  · have h : x ≤ e := le_of_lt (not_le.mp h)
    have hse : √e ≤ 1 / 2 := by
      rw [show (1 / 2 : ℝ) = √(1 / 4) by rw [show (1 / 4 : ℝ) = (1 / 2) ^ 2 by norm_num]; exact (Real.sqrt_sq (by norm_num)).symm]
      exact Real.sqrt_le_sqrt he'
    have hsx : √x ≤ 1 / 2 := (Real.sqrt_le_sqrt h).trans hse
    have hr : root e x ≤ 1 / 2 := by
      unfold root
      rw [max_eq_right h]
      calc x * (√e)⁻¹ ≤ e * (√e)⁻¹ := mul_le_mul_of_nonneg_right h (inv_nonneg.mpr (Real.sqrt_nonneg e))
        _ = √e := by rw [← div_eq_mul_inv, Real.div_sqrt]
        _ ≤ 1 / 2 := hse
    unfold pull
    rw [max_eq_right (by linarith : root e x - 1 / 2 ≤ 0), max_eq_right (by linarith : √x - 1 / 2 ≤ 0)]

/-- Weighted by the indicator of cluster `a`, the kernel's squared hinge is the plain one. -/
theorem hit_pull {e : ℝ} (he : 0 < e) (he' : e ≤ 1 / 4) (p : P) (a : Fin 32) :
    hit lab p a * pull (root e (near f lab mu p)) = hit lab p a * pull (√(away f mu p a)) := by
  by_cases h : lab p = BitVec.ofNat 32 a.val
  · rw [near_eq f lab mu h, pull_root he he' (away_nonneg f mu p a)]
  · have : hit lab p a = 0 := if_neg h
    rw [this, zero_mul, zero_mul]

/-- The squared distance of two centres from their inner products is the plain one. -/
theorem apartGram_eq (a b : Fin 32) : apartGram mu a b = apart mu a b := by
  unfold apartGram apart
  by_cases hab : a = b
  · rw [if_pos hab, if_pos hab]
  · rw [if_neg hab, if_neg hab]
    simp only [Finset.sum_ite_eq, Finset.sum_ite_eq', Finset.mem_univ, if_true]
    have : gram mu a a + gram mu b b - 2 * gram mu a b = ∑ d, (mu a d - mu b d) * (mu a d - mu b d) := by
      unfold gram
      rw [Finset.mul_sum, ← Finset.sum_add_distrib, ← Finset.sum_sub_distrib]
      exact Finset.sum_congr rfl fun d _ => by ring
    rw [this]
    exact max_eq_left (Finset.sum_nonneg fun d _ => mul_self_nonneg _)

/-- Squared norms are not negative. -/
theorem norm2_nonneg (a : Fin 32) : 0 ≤ norm2 mu a := Finset.sum_nonneg fun d _ => mul_self_nonneg _

/-- A cluster with a point has a positive count. -/
theorem count_pos {a : Fin 32} (h : ∃ p, lab p = BitVec.ofNat 32 a.val) : 0 < count lab a := by
  obtain ⟨p, hp⟩ := h
  have h0 : ∀ q ∈ (Finset.univ : Finset P), 0 ≤ hit lab q a := fun q _ => by
    rcases hit_cases lab q a with e | e <;> rw [e]; exact zero_le_one
  refine lt_of_lt_of_le zero_lt_one ?_
  have h1 : hit lab p a = 1 := if_pos hp
  rw [← h1]
  exact Finset.single_le_sum h0 (Finset.mem_univ p)

end Cert.Loss
-- ==== Proof.Scatter.lean ====
module

public import proofs.«01_k».proof.Proof.Gen.ReferenceIdeal
public import proofs.«01_k».proof.Proof.Loss
public import Idealize.ShloMosaic.Lib.Routing.OpsPair
public import Idealize.ShloMosaic.Lib.Pointwise

@[expose] public section

set_option maxRecDepth 16384

noncomputable section

/-! The reference's sums over a cluster: a scatter adds to a cluster's entry the updates of the points whose label is the cluster. -/

namespace Cert.ReferenceIdeal.Value

open Cert.ReferenceIdeal Cert.ReferenceIdeal.Gen Idealize.ShloMosaic Idealize.ShloMosaic.TcCoe

/-- A word read signed is a cluster number exactly when it is the cluster's word. -/
theorem word_toInt (x : BitVec 32) (a : Fin 32) : x.toInt = (a.val : ℤ) ↔ x = BitVec.ofNat 32 a.val := by
  have ha : (BitVec.ofNat 32 a.val).toInt = (a.val : ℤ) := by
    revert a
    decide
  rw [← ha]
  exact BitVec.toInt_inj

/-- A point's update lands at the cluster of its label. -/
theorem lands_vec (idx : IVec S320000x1 32) (p : Fin 320000) (a : Fin 32) :
    scatter_S32_S320000x1_S320000_n_0_0_1.resultIdx? (ix1 p) idx = some (ix1 a) ↔ idx (ix2 p 0) = BitVec.ofNat 32 a.val := by
  have hs : scatter_S32_S320000x1_S320000_n_0_0_1.start (ix1 p) idx 0 = (idx (ix2 p 0)).toInt := by
    unfold ScatterDims.start
    rw [dif_pos (by decide)]
    congr 2
    funext b
    match b with
    | ⟨0, _⟩ => rfl
    | ⟨1, _⟩ => rfl
  have hw : scatter_S32_S320000x1_S320000_n_0_0_1.window (ix1 p) 0 = 0 := rfl
  refine (Routing.resultIdx?_ix1 _ _ _ a).trans ?_
  rw [← word_toInt]
  erw [hs, hw]
  simp

/-- A row's update lands in the row of its label's cluster, in its own column. -/
theorem lands_row (idx : IVec S320000x1 32) (p : Fin 320000) (e : Fin 128) (a : Fin 32) (d : Fin 128) :
    scatter_S32x128_S320000x1_S320000x128_1_0_0_1.resultIdx? (ix2 p e) idx = some (ix2 a d)
      ↔ idx (ix2 p 0) = BitVec.ofNat 32 a.val ∧ e = d := by
  have hs : scatter_S32x128_S320000x1_S320000x128_1_0_0_1.start (ix2 p e) idx 0 = (idx (ix2 p 0)).toInt := by
    unfold ScatterDims.start
    rw [dif_pos (by decide)]
    congr 2
    funext b
    match b with
    | ⟨0, _⟩ => rfl
    | ⟨1, _⟩ => rfl
  have hs1 : scatter_S32x128_S320000x1_S320000x128_1_0_0_1.start (ix2 p e) idx 1 = 0 := rfl
  have hw : scatter_S32x128_S320000x1_S320000x128_1_0_0_1.window (ix2 p e) 0 = 0 := rfl
  have hw1 : scatter_S32x128_S320000x1_S320000x128_1_0_0_1.window (ix2 p e) 1 = e.val := rfl
  refine (Routing.resultIdx?_ix2 _ _ _ a d).trans ?_
  rw [← word_toInt]
  erw [hs, hs1, hw, hw1]
  simp [Fin.ext_iff]

/-- The scatter of one number per point: each cluster's entry gains the numbers of its points. -/
theorem scatter_vec (x : FVec Ideal S32 .f32) (idx : IVec S320000x1 32) (u : FVec Ideal S320000 .f32) (a : Fin 32) :
    Host.scatterAdd scatter_S32_S320000x1_S320000_n_0_0_1 x idx u (ix1 a)
      = x (ix1 a) + ∑ p : Fin 320000, if idx (ix2 p 0) = BitVec.ofNat 32 a.val then u (ix1 p) else 0 := by
  unfold Host.scatterAdd
  rw [Ideal.hostScatterAdd_def]
  unfold Ideal.hostScatterAdd
  rw [Finset.sum_filter, Idealize.ShloMosaic.sum_idx1]
  simp only [lands_vec]

/-- The scatter of the rows: each cluster's row gains its points' rows. -/
theorem scatter_rows (x : FVec Ideal S32x128 .f32) (idx : IVec S320000x1 32) (u : FVec Ideal S320000x128 .f32) (a : Fin 32) (d : Fin 128) :
    Host.scatterAdd scatter_S32x128_S320000x1_S320000x128_1_0_0_1 x idx u (ix2 a d)
      = x (ix2 a d) + ∑ p : Fin 320000, if idx (ix2 p 0) = BitVec.ofNat 32 a.val then u (ix2 p d) else 0 := by
  unfold Host.scatterAdd
  rw [Ideal.hostScatterAdd_def]
  unfold Ideal.hostScatterAdd
  rw [Finset.sum_filter, Idealize.ShloMosaic.sum_idx2]
  simp only [lands_row, ite_and]
  refine congrArg _ (Finset.sum_congr rfl fun p _ => ?_)
  split_ifs
  · rw [Finset.sum_ite_eq' Finset.univ d, if_pos (Finset.mem_univ d)]
  · exact Finset.sum_const_zero

end Cert.ReferenceIdeal.Value
-- ==== Proof.Reference.lean ====
module

public import proofs.«01_k».proof.Proof.ReferenceParts
public import proofs.«01_k».proof.Proof.Scatter
public import proofs.«01_k».proof.Proof.Words
public import proofs.«01_k».proof.Proof.Loss
public import Idealize.ShloMosaic.Lib.Routing.Ops

@[expose] public section

set_option maxRecDepth 16384

noncomputable section

/-! What the reference computes: the loss and its three parts, over the real numbers. -/

namespace Cert.ReferenceIdeal.Value

open Cert.ReferenceIdeal Cert.ReferenceIdeal.Gen Idealize.ShloMosaic Idealize.ShloMosaic.TcCoe Cert.Words Cert.Loss

variable {X : FVec Ideal S320000x128 .f32} {L : IVec S320000 32} {f : Fin 320000 → Fin 128 → ℝ} {lab : Fin 320000 → BitVec 32} (hL : ∀ p, L (ix1 p) = lab p)

/-- A sum over the points of one cluster is the sum weighted by the cluster's indicator. -/
theorem sum_label (lab : Fin 320000 → BitVec 32) (a : Fin 32) (y : Fin 320000 → ℝ) :
    (∑ p, if lab p = BitVec.ofNat 32 a.val then (y p : EReal) else 0) = ((∑ p, hit lab p a * y p : ℝ) : EReal) := by
  rw [← coe_sum]
  refine Finset.sum_congr rfl fun p _ => ?_
  unfold hit
  split
  · rw [one_mul]
  · rw [zero_mul]; rfl

section Labels

include hL

/-- The scatter indices are the labels. -/
theorem rows_at (p : Fin 320000) : rows L (ix2 p 0) = lab p := by
  rw [← hL]
  pointwise

/-- The counts are the counts. -/
theorem counts_at (a : Fin 32) : counts L (ix1 a) = ((count lab a : ℝ) : EReal) := by
  unfold counts
  rw [scatter_vec]
  simp only [rows_at hL]
  pointwise
  refine Eq.trans ?_ (coe_sum Finset.univ fun p => hit lab p a)
  exact Finset.sum_congr rfl fun p _ => coe_ite _ 1 0

/-- The means are the means. -/
theorem means_at (hX : ∀ p d, X (ix2 p d) = ((f p d : ℝ) : EReal)) (hn : ∀ a, count lab a ≠ 0) (a : Fin 32) (d : Fin 128) :
    means X L (ix2 a d) = ((mean f lab a d : ℝ) : EReal) := by
  have h : means X L (ix2 a d) = Ideal.div (Host.scatterAdd scatter_S32x128_S320000x1_S320000x128_1_0_0_1
      (broadcastInDim S32x128 ![] bcast_S_S32x128 (constant S_ .f32 0x00000000#32)) (rows L) X (ix2 a d)) (counts L (ix1 a)) := by
    pointwise [means]
  rw [h, counts_at hL, scatter_rows]
  simp only [rows_at hL, hX]
  pointwise
  rw [sum_label, coe_div _ (hn a)]
  rfl

/-- A point of cluster `a` reads row `a`. -/
theorem wrapped_at (p : Fin 320000) (a : Fin 32) (h : lab p = BitVec.ofNat 32 a.val) : wrapped L (ix2 p 0) = BitVec.ofNat 32 a.val := by
  have e : wrapped L (ix2 p 0) = Scalar.select (IntOp.cmpi .slt (L (ix1 p)) 0#32) (IntOp.addi (L (ix1 p)) 32#32) (L (ix1 p)) := by
    pointwise [wrapped]
  rw [e, hL, h]
  clear h e
  revert a
  decide

/-- The hinge of a point of cluster `a`. -/
theorem hinge_at (hX : ∀ p d, X (ix2 p d) = ((f p d : ℝ) : EReal)) (M : FVec Ideal S32x128 .f32) (mu : Fin 32 → Fin 128 → ℝ)
    (hM : ∀ a d, M (ix2 a d) = ((mu a d : ℝ) : EReal)) (p : Fin 320000) (a : Fin 32) (h : lab p = BitVec.ofNat 32 a.val) :
    hinge (offset X L M) (ix1 p) = ((max (√(away f mu p a) - 1 / 2) 0 : ℝ) : EReal) := by
  have ho : ∀ d, offset X L M (ix2 p d) = ((f p d - mu a d : ℝ) : EReal) := fun d => by
    have e : offset X L M (ix2 p d) = X (ix2 p d) - Host.gather gather_S32x128_S320000x1_S320000x128_1_0_n_n_0_1_1128 M (wrapped L) (ix2 p d) := rfl
    rw [e, hX, show Host.gather gather_S32x128_S320000x1_S320000x128_1_0_n_n_0_1_1128 M (wrapped L) (ix2 p d) = M (ix2 a d) from
      Routing.gather_row _ rfl rfl rfl rfl rfl M (wrapped L) p d a (wrapped_at hL p a h) (by norm_num), hM, EReal.coe_sub]
  have e : hinge (offset X L M) (ix1 p) = max (Ideal.sqrt (∑ d, offset X L M (ix2 p d) * offset X L M (ix2 p d)) - Ideal.ofBits .f32 0x3F000000#32) 0 := by
    generalize offset X L M = O
    pointwise [hinge]
  rw [e]
  simp only [ho, half, ← EReal.coe_mul, coe_sum]
  rw [show ∑ d, (f p d - mu a d) * (f p d - mu a d) = away f mu p a from rfl, coe_sqrt (away_nonneg f mu p a), ← EReal.coe_sub, coe_max_zero]

/-- The variance part. -/
theorem var_at (H : FVec Ideal S320000 .f32) (N : FVec Ideal S32 .f32) (mu : Fin 32 → Fin 128 → ℝ)
    (hH : ∀ p a, lab p = BitVec.ofNat 32 a.val → H (ix1 p) = ((max (√(away f mu p a) - 1 / 2) 0 : ℝ) : EReal))
    (hN : ∀ a, N (ix1 a) = ((count lab a : ℝ) : EReal)) (hn : ∀ a, count lab a ≠ 0) :
    varPart L H N ix0 = ((variance f lab mu : ℝ) : EReal) := by
  have hs : ∀ a, Host.scatterAdd scatter_S32_S320000x1_S320000_n_0_0_1
      (broadcastInDim S32 ![] bcast_S_S32 (constant S_ .f32 0x00000000#32)) (rows L) (mulf H H) (ix1 a)
      = ((∑ p, hit lab p a * pull (√(away f mu p a)) : ℝ) : EReal) := fun a => by
    rw [scatter_vec]
    simp only [rows_at hL]
    rw [← coe_sum]
    pointwise
    refine Finset.sum_congr rfl fun p _ => ?_
    unfold hit
    split
    · next h => rw [hH p a h, ← EReal.coe_mul, one_mul]; rfl
    · rw [zero_mul]; rfl
  have e : varPart L H N ix0 = Ideal.div (∑ a, Ideal.div (Host.scatterAdd scatter_S32_S320000x1_S320000_n_0_0_1
      (broadcastInDim S32 ![] bcast_S_S32 (constant S_ .f32 0x00000000#32)) (rows L) (mulf H H) (ix1 a)) (N (ix1 a)))
      (Ideal.ofBits .f32 0x42000000#32) := by
    pointwise [varPart]
  rw [e]
  simp only [hs, hN, coe_div _ (hn _), coe_sum, w32]
  rw [coe_div _ (by norm_num)]
  rfl

end Labels

section Means

variable (M : FVec Ideal S32x128 .f32) (mu : Fin 32 → Fin 128 → ℝ) (hM : ∀ a d, M (ix2 a d) = ((mu a d : ℝ) : EReal))
include hM

/-- The distance part. -/
theorem dist_at : distPart (shove (gaps (between M))) ix0 = ((distance mu : ℝ) : EReal) := by
  have hd : ∀ a b : Fin 32, diag (ix2 a b) = IntOp.cmpi .eq (BitVec.ofNat 32 a.val) (BitVec.ofNat 32 b.val) := fun a b => by
    pointwise [diag]
    rw [show IntOp.addi (BitVec.ofNat 32 a.val) 0#32 = BitVec.ofNat 32 a.val from BitVec.add_zero _]
  have hb : ∀ a b d, between M (ix3 a b d) = ((mu a d - mu b d : ℝ) : EReal) := fun a b d => by
    rw [EReal.coe_sub, ← hM, ← hM]
    pointwise [between]
  have hg : ∀ a b, gaps (between M) (ix2 a b) = ((apart mu a b : ℝ) : EReal) := fun a b => by
    generalize between M = D at hb
    have e : gaps D (ix2 a b) = Scalar.select (diag (ix2 a b)) 1 (∑ d, D (ix3 a b d) * D (ix3 a b d)) := by
      pointwise [gaps, id]
    rw [e, hd, select_word]
    simp only [hb, ← EReal.coe_mul, coe_sum]
    exact coe_ite (a = b) 1 _
  have h0 : ∀ a b, 0 ≤ apart mu a b := fun a b => by
    unfold apart
    split
    · exact zero_le_one
    · exact Finset.sum_nonneg fun d _ => mul_self_nonneg _
  have hs : ∀ a b, shove (gaps (between M)) (ix2 a b) = ((max (3 - √(apart mu a b)) 0 : ℝ) : EReal) := fun a b => by
    generalize gaps (between M) = G at hg
    have e : shove G (ix2 a b) = max (Ideal.ofBits .f32 0x40400000#32 - Ideal.sqrt (G (ix2 a b))) 0 := by
      pointwise [shove]
    rw [e, hg, three, coe_sqrt (h0 a b), ← EReal.coe_sub, coe_max_zero]
  generalize shove (gaps (between M)) = S at hs
  have e : distPart S ix0 = Ideal.div (∑ a, ∑ b, Scalar.select (diag (ix2 a b)) 0 (S (ix2 a b) * S (ix2 a b))) (Ideal.ofBits .f32 0x44780000#32) := by
    pointwise [distPart, id]
  rw [e]
  have hp : ∀ a b : Fin 32, (if a = b then (0 : EReal) else (((max (3 - √(apart mu a b)) 0 * max (3 - √(apart mu a b)) 0 : ℝ)) : EReal))
      = ((push (apart mu a b) a b : ℝ) : EReal) := fun a b => coe_ite (a = b) 0 _
  simp only [hd, select_word, hs, ← EReal.coe_mul, hp, coe_sum, w992]
  rw [coe_div _ (by norm_num)]
  rfl

/-- The regularization part. -/
theorem reg_at : regPart M ix0 = ((spread mu : ℝ) : EReal) := by
  have e : regPart M ix0 = Ideal.div (∑ a, Ideal.sqrt (∑ d, M (ix2 a d) * M (ix2 a d))) (Ideal.ofBits .f32 0x42000000#32) := by
    pointwise [regPart]
  rw [e]
  have hq : ∀ a, Ideal.sqrt ((∑ d, mu a d * mu a d : ℝ) : EReal) = ((√(norm2 mu a) : ℝ) : EReal) := fun a => coe_sqrt (norm2_nonneg mu a)
  simp only [hM, ← EReal.coe_mul, coe_sum, hq, w32]
  rw [coe_div _ (by norm_num)]
  rfl

end Means

/-- The vector of the four at an index. -/
theorem stacked_at (v p r : FVec Ideal S_ .f32) (v' p' r' : ℝ) (hv : v ix0 = ((v' : ℝ) : EReal)) (hp : p ix0 = ((p' : ℝ) : EReal))
    (hr : r ix0 = ((r' : ℝ) : EReal)) (k : Fin 4) :
    stacked v p r (ix1 k) = ((fourth v' p' r' k : ℝ) : EReal) := by
  match k with
  | 0 =>
    pointwise [stacked]
    rw [hv, hp, hr, wt_word, ← EReal.coe_mul, ← EReal.coe_add, ← EReal.coe_add]
    rfl
  | 1 =>
    pointwise [stacked]
    exact hv
  | 2 =>
    pointwise [stacked]
    exact hp
  | 3 =>
    pointwise [stacked]
    exact hr

/-- The reference's result: the loss, then its three parts. -/
theorem result (m : (ℓ : Loc nD τ sig) → Buf (Elt Ideal) ℓ) (c : Dev nD)
    (hX : ∀ p d, (m ((c.tc : Thread nD τ).loc main_arg0) : FVec Ideal S320000x128 .f32) (ix2 p d) = ((f p d : ℝ) : EReal))
    (hL : ∀ p, (m ((c.tc : Thread nD τ).loc main_arg1) : IVec S320000 32) (ix1 p) = lab p)
    (hn : ∀ a, count lab a ≠ 0) (k : Fin 4) : (res_main_v68 m c : FVec Ideal S4 .f32) (ix1 k)
    = ((fourth (variance f lab (mean f lab)) (distance (mean f lab)) (spread (mean f lab)) k : ℝ) : EReal) := by
  have hM := means_at hL hX hn
  rw [res_eq]
  exact stacked_at _ _ _ _ _ _ (var_at hL _ _ (mean f lab) (hinge_at hL hX _ _ hM) (counts_at hL) hn) (dist_at _ _ hM) (reg_at _ _ hM) k

end Cert.ReferenceIdeal.Value
-- ==== Proof.KernelIdeal.StepsB.lean ====
module

public import proofs.«01_k».proof.Proof.KernelIdeal.PassBBody
public import Idealize.ShloMosaic.Lib.Pipeline.ValueKit
public import Idealize.ShloMosaic.Lib.Pipeline.ReadBack

@[expose] public section

set_option maxRecDepth 16384

noncomputable section

namespace Cert.KernelIdeal.Whole

open Idealize.ShloMosaic Idealize.ShloMosaic.TcCoe Idealize.SL.Sem
open Cert.KernelIdeal.Gen

variable {F : FTy → Type} [FloatOps F]
variable (V : (c : Dev nD) → (b : Ref sig .tc) → Buf (Elt F) ((c : Thread nD τ).loc b))

/-! What one point of the second pass leaves in its two carried buffers and, at the last point, in the output. -/

/-- What the point before `t` left. -/
abbrev prev1 (c : Dev nD) (t : Fin cfg1.N) : Vec F S8x128 .f32 × Vec F S32x128 .f32 × Vec F S32x1 .f32 :=
  outsAt1 V c (t.val - 1) (Nat.lt_of_le_of_lt (Nat.sub_le _ _) t.isLt)

/-- One point's update of the accumulator `a` under the means `mu`. -/
def accStep (c : Dev nD) (t : Fin cfg1.N) (mu : Vec F S32x128 .f32) (a : Vec F S32x1 .f32) : Vec F S32x1 .f32 :=
  k1_pay1 (k1_pay7 (iblk1 V c 1 t)) (k1_pay9 mu (iblk1 V c 0 t) (iblk1 V c 1 t) (iblk1 V c 2 t)) k1_pay10 a

/-- The first point stores the means. -/
theorem means_first (c : Dev nD) (t : Fin cfg1.N) (h0 : t.val % 10 = 0) :
    (outsAt1 V c t.val t.isLt).2.1 = k1_pay5 (iblk1 V c 3 t) (iblk1 V c 4 t) := by
  rw [outsAt1_A V c t h0 (by omega)]; frame_out

/-- A later point leaves the means as they were. -/
theorem means_next (c : Dev nD) (t : Fin cfg1.N) (h0 : ¬t.val % 10 = 0) :
    (outsAt1 V c t.val t.isLt).2.1 = (prev1 V c t).2.1 := by
  by_cases h1 : t.val % 10 = 9
  · rw [outsAt1_C V c t h0 h1]; rfl
  · rw [outsAt1_B V c t h0 h1]; rfl

/-- The first point adds its block's penalties to zeros. -/
theorem acc_first (c : Dev nD) (t : Fin cfg1.N) (h0 : t.val % 10 = 0) :
    (outsAt1 V c t.val t.isLt).2.2 = accStep V c t (k1_pay5 (iblk1 V c 3 t) (iblk1 V c 4 t)) k1_pay6 := by
  rw [outsAt1_A V c t h0 (by omega)]; unfold accStep; frame_out

/-- A later point adds its block's penalties to those of the point before. -/
theorem acc_next (c : Dev nD) (t : Fin cfg1.N) (h0 : ¬t.val % 10 = 0) :
    (outsAt1 V c t.val t.isLt).2.2 = accStep V c t (prev1 V c t).2.1 (prev1 V c t).2.2 := by
  by_cases h1 : t.val % 10 = 9
  · rw [outsAt1_C V c t h0 h1]; unfold accStep; frame_out
    simp only [read_unread_whole]
  · rw [outsAt1_B V c t h0 h1]; unfold accStep; frame_out
    simp only [read_unread_whole]

/-- The last point stores the output: the three parts of the loss from the means, the counts and the full accumulator. -/
theorem out_last (c : Dev nD) (t : Fin cfg1.N) (h1 : t.val % 10 = 9) :
    (outsAt1 V c t.val t.isLt).1 = k1_pay2 (k1_pay8 (prev1 V c t).2.1)
      (k1_pay3 (iblk1 V c 4 t) (accStep V c t (prev1 V c t).2.1 (prev1 V c t).2.2)) (k1_pay4 (prev1 V c t).2.1) := by
  rw [outsAt1_C V c t (by omega) h1]; unfold accStep; frame_out
  simp only [read_unread_whole]

end Cert.KernelIdeal.Whole
-- ==== Proof.KernelIdeal.StepsA.lean ====
module

public import proofs.«01_k».proof.Proof.KernelIdeal.PassA
public import Idealize.ShloMosaic.Lib.Pipeline.ValueKit
public import Idealize.ShloMosaic.Lib.Pipeline.ReadBack

@[expose] public section

set_option maxRecDepth 16384

noncomputable section

namespace Cert.KernelIdeal.Whole

open Idealize.ShloMosaic Idealize.ShloMosaic.TcCoe Idealize.SL.Sem
open Cert.KernelIdeal.Gen

variable {F : FTy → Type} [FloatOps F]
variable (V : (c : Dev nD) → (b : Ref sig .tc) → Buf (Elt F) ((c : Thread nD τ).loc b))

/-! What one point of the first pass leaves in its three outputs. -/

/-- The first point adds its block's sums to zeros. -/
theorem sums_first (c : Dev nD) (t : Fin cfg0.N) (h0 : t.val % 10 = 0) :
    (outsAt0 V c t.val t.isLt).1 = k0_pay6 (iblk0 V c 0 t) (iblk0 V c 1 t) k0_pay4 := by
  rw [outsAt0_A V c t h0]; frame_out

/-- A later point adds its block's sums to those of the point before. -/
theorem sums_next (c : Dev nD) (t : Fin cfg0.N) (h0 : ¬t.val % 10 = 0) :
    (outsAt0 V c t.val t.isLt).1 = k0_pay6 (iblk0 V c 0 t) (iblk0 V c 1 t)
      (outsAt0 V c (t.val - 1) (Nat.lt_of_le_of_lt (Nat.sub_le _ _) t.isLt)).1 := by
  rw [outsAt0_B V c t h0]; frame_out

/-- The first point adds its block's counts to zeros. -/
theorem counts_first (c : Dev nD) (t : Fin cfg0.N) (h0 : t.val % 10 = 0) :
    (outsAt0 V c t.val t.isLt).2.1 = k0_pay7 (iblk0 V c 1 t) k0_pay5 := by
  rw [outsAt0_A V c t h0]; frame_out

/-- A later point adds its block's counts to those of the point before. -/
theorem counts_next (c : Dev nD) (t : Fin cfg0.N) (h0 : ¬t.val % 10 = 0) :
    (outsAt0 V c t.val t.isLt).2.1 = k0_pay7 (iblk0 V c 1 t)
      (outsAt0 V c (t.val - 1) (Nat.lt_of_le_of_lt (Nat.sub_le _ _) t.isLt)).2.1 := by
  rw [outsAt0_B V c t h0]; frame_out

/-- Every point leaves the squared norms of its own block's rows. -/
theorem norms_point (c : Dev nD) (t : Fin cfg0.N) :
    (outsAt0 V c t.val t.isLt).2.2 = k0_pay3 (iblk0 V c 0 t) := by
  by_cases h0 : t.val % 10 = 0
  · rw [outsAt0_A V c t h0]; frame_out
  · rw [outsAt0_B V c t h0]; frame_out

end Cert.KernelIdeal.Whole
-- ==== Proof.KernelIdeal.Payloads.lean ====
module

public import proofs.«01_k».proof.Proof.Gen.KernelIdeal.Skeleton
public import proofs.«01_k».proof.Proof.Words
public import proofs.«01_k».proof.Proof.Loss
public import Idealize.ShloMosaic.Lib.Pointwise

@[expose] public section

set_option maxRecDepth 16384

noncomputable section

/-! What one block computes: each stored value at an index, when the block's entries are real numbers. -/

namespace Cert.KernelIdeal.Whole

open Idealize.ShloMosaic Idealize.ShloMosaic.TcCoe Idealize.SL.Sem
open Cert.KernelIdeal.Gen Cert.Words Cert.Loss

/-- The labels of a block, by row. -/
abbrev blockLab (l : Vec Ideal S1x1x32000 .i32) : Fin 32000 → BitVec 32 := fun q => l (ix3 0 0 q)

/-- The first pass's indicator matrix. -/
theorem onehotA (l : Vec Ideal S1x1x32000 .i32) (a : Fin 32) (q : Fin 32000) :
    k0_pay2 l (ix2 a q) = ((hit (blockLab l) q a : ℝ) : EReal) := by
  pointwise [k0_pay2]
  exact bit_word _ _

/-- The second pass's indicator matrix. -/
theorem onehotB (l : Vec Ideal S1x1x32000 .i32) (a : Fin 32) (q : Fin 32000) :
    k1_pay7 l (ix2 a q) = ((hit (blockLab l) q a : ℝ) : EReal) := by
  pointwise [k1_pay7]
  exact bit_word _ _

section Real

variable (x : Vec Ideal S32000x128 .f32) (l : Vec Ideal S1x1x32000 .i32) (f : Fin 32000 → Fin 128 → ℝ)
  (hx : ∀ q d, x (ix2 q d) = ((f q d : ℝ) : EReal))
include hx

/-- A block adds to the sums its own clusters' sums. -/
theorem sums_at (s : Vec Ideal S32x128 .f32) (a : Fin 32) (d : Fin 128) :
    k0_pay6 x l s (ix2 a d) = s (ix2 a d) + ((total f (blockLab l) a d : ℝ) : EReal) := by
  have h : k0_pay6 x l s (ix2 a d) = s (ix2 a d) + ∑ q : Fin 32000, k0_pay2 l (ix2 a q) * x (ix2 q d) := by
    pointwise [k0_pay6, k0_pay1]
  rw [h]
  simp only [onehotA, hx, ← EReal.coe_mul, coe_sum]
  rfl

/-- A block stores the squared norms of its rows. -/
theorem norms_at (q : Fin 32000) :
    k0_pay3 x (ix3 0 0 q) = ((∑ d, f q d * f q d : ℝ) : EReal) := by
  have h : k0_pay3 x (ix3 0 0 q) = ∑ d : Fin 128, x (ix2 q d) * x (ix2 q d) := by
    pointwise [k0_pay3, k0_pay1]
  rw [h]
  simp only [hx, ← EReal.coe_mul, coe_sum]

end Real

/-- A block adds to the counts its own clusters' counts. -/
theorem counts_at (l : Vec Ideal S1x1x32000 .i32) (s : Vec Ideal S32x1 .f32) (a : Fin 32) :
    k0_pay7 l s (ix2 a 0) = s (ix2 a 0) + ((count (blockLab l) a : ℝ) : EReal) := by
  have h : k0_pay7 l s (ix2 a 0) = s (ix2 a 0) + ∑ q : Fin 32000, k0_pay2 l (ix2 a q) := by
    pointwise [k0_pay7]
  rw [h]
  simp only [onehotA, coe_sum]
  rfl

/-- The sums start at zero. -/
theorem sums_zero (a : Fin 32) (d : Fin 128) : k0_pay4 (F := Ideal) (ix2 a d) = ((0 : ℝ) : EReal) := by
  pointwise [k0_pay4]
  rfl

/-- The counts start at zero. -/
theorem counts_zero (a : Fin 32) : k0_pay5 (F := Ideal) (ix2 a 0) = ((0 : ℝ) : EReal) := by
  pointwise [k0_pay5]
  rfl

/-- The accumulated penalties start at zero. -/
theorem acc_zero (a : Fin 32) : k1_pay6 (F := Ideal) (ix2 a 0) = ((0 : ℝ) : EReal) := by
  pointwise [k1_pay6]
  rfl

/-- The means are the sums over the counts. -/
theorem means_at (s : Vec Ideal S32x128 .f32) (n : Vec Ideal S32x1 .f32) (S : Fin 32 → Fin 128 → ℝ) (N : Fin 32 → ℝ)
    (hs : ∀ a d, s (ix2 a d) = ((S a d : ℝ) : EReal)) (hn : ∀ a, n (ix2 a 0) = ((N a : ℝ) : EReal)) (h0 : ∀ a, N a ≠ 0)
    (a : Fin 32) (d : Fin 128) : k1_pay5 s n (ix2 a d) = ((S a d / N a : ℝ) : EReal) := by
  have h : k1_pay5 s n (ix2 a d) = Ideal.div (s (ix2 a d)) (n (ix2 a 0)) := by
    pointwise [k1_pay5]
  rw [h, hs, hn, coe_div _ (h0 a)]

section Means

variable (m : Vec Ideal S32x128 .f32) (mu : Fin 32 → Fin 128 → ℝ) (hm : ∀ a d, m (ix2 a d) = ((mu a d : ℝ) : EReal))
include hm

/-- The squared norms of the means. -/
theorem norm2_at (a : Fin 32) : k1_pay8 m (ix2 a 0) = ((norm2 mu a : ℝ) : EReal) := by
  have h : k1_pay8 m (ix2 a 0) = ∑ d : Fin 128, m (ix2 a d) * m (ix2 a d) := by
    pointwise [k1_pay8]
  rw [h]
  simp only [hm, ← EReal.coe_mul, coe_sum]
  rfl

/-- The guarded root of a row's squared distance from its cluster's mean. -/
theorem roots_at (x : Vec Ideal S32000x128 .f32) (l : Vec Ideal S1x1x32000 .i32) (fs : Vec Ideal S1x1x32000 .f32)
    (f : Fin 32000 → Fin 128 → ℝ) (hx : ∀ q d, x (ix2 q d) = ((f q d : ℝ) : EReal))
    (hf : ∀ q, fs (ix3 0 0 q) = ((∑ d, f q d * f q d : ℝ) : EReal)) (q : Fin 32000) :
    k1_pay9 m x l fs (ix2 0 q) = ((root eps (near f (blockLab l) mu q) : ℝ) : EReal) := by
  have hd : max (fs (ix3 0 0 q) + ∑ a, k1_pay7 l (ix2 a q)
      * (k1_pay8 m (ix2 a 0) - Ideal.ofBits .f32 0x40000000#32 * ∑ d, m (ix2 a d) * x (ix2 q d))) 0
      = ((near f (blockLab l) mu q : ℝ) : EReal) := by
    simp only [hf, onehotB, norm2_at m mu hm, two, hm, hx, ← EReal.coe_mul, coe_sum, ← EReal.coe_sub, ← EReal.coe_add, coe_max_zero]
    rfl
  pointwise [k1_pay9]
  rw [hd, eps_word, coe_max, coe_rsqrt (lt_of_lt_of_le eps_pos (le_max_right _ _)), ← EReal.coe_mul]
  rfl

/-- The sum of the squared hinges over pairs of means. -/
theorem pushes_at : k1_pay4 m (ix3 0 0 0) = ((∑ a, ∑ b, push (apartGram mu a b) a b : ℝ) : EReal) := by
  have hg : ∀ a b : Fin 32, ∑ d, m (ix2 a d) * m (ix2 b d) = ((gram mu a b : ℝ) : EReal) := fun a b => by
    simp only [hm, ← EReal.coe_mul, coe_sum]; rfl
  have h0 : (0 : EReal) = ((0 : ℝ) : EReal) := rfl
  have h1 : (1 : EReal) = ((1 : ℝ) : EReal) := rfl
  have hs : ∀ a b : Fin 32, Ideal.sqrt ((apartGram mu a b : ℝ) : EReal) = ((√(apartGram mu a b) : ℝ) : EReal) := fun a b => by
    refine coe_sqrt ?_
    unfold apartGram
    split
    · exact zero_le_one
    · exact le_max_right _ _
  have hq : ∀ a b : Fin 32, (if a = b then (1 : EReal) else max ((∑ b', if a = b' then ((gram mu a b' : ℝ) : EReal) else 0)
      + (∑ a', if a' = b then ((gram mu a' b : ℝ) : EReal) else 0) - ((2 : ℝ) : EReal) * ((gram mu a b : ℝ) : EReal)) 0)
      = ((apartGram mu a b : ℝ) : EReal) := fun a b => by
    simp only [h0, h1, coe_ite, coe_sum, ← EReal.coe_mul, ← EReal.coe_add, ← EReal.coe_sub, coe_max]
    rfl
  pointwise [k1_pay4]
  simp only [select_word, hg, two, three, hq]
  simp only [hs, ← EReal.coe_sub, coe_max_zero, ← EReal.coe_mul]
  simp only [h0, coe_ite, coe_sum]
  rfl

end Means

/-- A block adds to the accumulated penalties the squared hinges of its own rows' distances. -/
theorem acc_at (oh : FVec Ideal S32x32000 .bf16) (s : FVec Ideal S1x32000 .f32) (acc : Vec Ideal S32x1 .f32)
    (lab : Fin 32000 → BitVec 32) (r : Fin 32000 → ℝ) (ho : ∀ a q, oh (ix2 a q) = ((hit lab q a : ℝ) : EReal))
    (hs : ∀ q, s (ix2 0 q) = ((r q : ℝ) : EReal)) (a : Fin 32) :
    k1_pay1 oh s k1_pay10 acc (ix2 a 0) = acc (ix2 a 0) + ((∑ q, hit lab q a * pull (r q) : ℝ) : EReal) := by
  pointwise [k1_pay1, k1_pay10]
  simp only [ho, hs, half, ← EReal.coe_sub, coe_max_zero, ← EReal.coe_mul, coe_sum]
  rfl

/-- The variance part from the counts and the accumulated penalties. -/
theorem variance_at (n acc : Vec Ideal S32x1 .f32) (N A : Fin 32 → ℝ) (hn : ∀ a, n (ix2 a 0) = ((N a : ℝ) : EReal))
    (h0 : ∀ a, N a ≠ 0) (ha : ∀ a, acc (ix2 a 0) = ((A a : ℝ) : EReal)) :
    k1_pay3 n acc = (((∑ a, A a / N a) / 32 : ℝ) : EReal) := by
  pointwise [k1_pay3]
  have h : ∀ a, Ideal.div (A a : EReal) (N a : EReal) = ((A a / N a : ℝ) : EReal) := fun a => coe_div _ (h0 a)
  simp only [hn, ha, h, Finset.univ_unique, Finset.sum_singleton, coe_sum, w32]
  exact coe_div _ (by norm_num)

/-- The output's first row holds the loss, then its three parts. -/
theorem out_at (m2 : FVec Ideal S32x1 .f32) (v : Ideal .f32) (w : FVec Ideal S1x1x1 .f32) (M : Fin 32 → ℝ) (va pu : ℝ)
    (hM : ∀ a, m2 (ix2 a 0) = ((M a : ℝ) : EReal)) (hM0 : ∀ a, 0 ≤ M a) (hv : v = (va : EReal)) (hw : w (ix3 0 0 0) = (pu : EReal))
    (k : Fin 4) : k1_pay2 m2 v w (ix2 0 ⟨k.val, by omega⟩) = ((fourth va (pu / 992) ((∑ a, √(M a)) / 32) k : ℝ) : EReal) := by
  have h : ∀ a, Ideal.sqrt (max (M a : EReal) 0) = ((√(M a) : ℝ) : EReal) := fun a => by
    rw [coe_max_zero, max_eq_left (hM0 a), coe_sqrt (hM0 a)]
  have hp : Ideal.div (pu : EReal) ((992 : ℝ) : EReal) = ((pu / 992 : ℝ) : EReal) := coe_div _ (by norm_num)
  have hr : Ideal.div ((∑ a, √(M a) : ℝ) : EReal) ((32 : ℝ) : EReal) = (((∑ a, √(M a)) / 32 : ℝ) : EReal) := coe_div _ (by norm_num)
  pointwise [k1_pay2]
  simp only [hM, h, hv, hw, Finset.univ_unique, Finset.sum_singleton, coe_sum, w32, w992, wt_word, hp, hr, ← EReal.coe_mul, ← EReal.coe_add]
  fin_cases k <;> rfl

end Cert.KernelIdeal.Whole
-- ==== Proof.Points.lean ====
module

public import proofs.«01_k».proof.Proof.Loss
public import Idealize.ShloMosaic.Lib.Pipeline.ValueKit

@[expose] public section

set_option maxRecDepth 16384

noncomputable section

/-! The 320000 points as ten blocks of 32000 rows: sums over the points are sums over blocks and rows. -/

namespace Cert.Loss

/-- Row `q` of block `n` as a point. -/
def pt (n : ℕ) (q : Fin 32000) : Fin 320000 := ⟨(n * 32000 + q.val) % 320000, Nat.mod_lt _ (by norm_num)⟩

/-- The block number and row give the point's position. -/
theorem pt_val {n : ℕ} (h : n < 10) (q : Fin 32000) : (pt n q).val = n * 32000 + q.val := by
  have := q.isLt
  exact Nat.mod_eq_of_lt (by omega)

/-- A sum over blocks and rows is the sum over the points. -/
theorem sum_pt {N : ℕ} (hN : N = 10) (g : Fin 320000 → ℝ) : ∑ t : Fin N, ∑ q, g (pt t.val q) = ∑ p, g p := by
  subst hN
  refine Fin.sum_mul_add_congr (S := 10) (n := 32000) fun t q h => ?_
  exact congrArg g (Fin.ext (pt_val t.isLt q))

variable (f : Fin 320000 → Fin 128 → ℝ) (lab : Fin 320000 → BitVec 32) {N : ℕ} (hN : N = 10)
include hN

/-- The blocks' cluster sums add up to the cluster sums. -/
theorem total_blocks (a : Fin 32) (d : Fin 128) :
    ∑ t : Fin N, total (fun q => f (pt t.val q)) (fun q => lab (pt t.val q)) a d = total f lab a d :=
  sum_pt hN fun p => hit lab p a * f p d

/-- The blocks' cluster counts add up to the cluster counts. -/
theorem count_blocks (a : Fin 32) : ∑ t : Fin N, count (fun q => lab (pt t.val q)) a = count lab a :=
  sum_pt hN fun p => hit lab p a

/-- The blocks' penalties add up to the penalties of all points. -/
theorem pull_blocks (mu : Fin 32 → Fin 128 → ℝ) (e : ℝ) (a : Fin 32) :
    ∑ t : Fin N, ∑ q, hit (fun q => lab (pt t.val q)) q a * pull (root e (near (fun q => f (pt t.val q)) (fun q => lab (pt t.val q)) mu q))
      = ∑ p, hit lab p a * pull (root e (near f lab mu p)) :=
  sum_pt hN fun p => hit lab p a * pull (root e (near f lab mu p))

end Cert.Loss
-- ==== Proof.KernelIdeal.ValueA.lean ====
module

public import proofs.«01_k».proof.Proof.KernelIdeal.StepsA
public import proofs.«01_k».proof.Proof.KernelIdeal.Payloads
public import proofs.«01_k».proof.Proof.Points

@[expose] public section

set_option maxRecDepth 16384

noncomputable section

/-! What the first pass's arrays hold: the cluster sums, the cluster counts and the squared norms of the points. -/

namespace Cert.KernelIdeal.Whole

open Idealize.ShloMosaic Idealize.ShloMosaic.TcCoe Idealize.SL.Sem
open Idealize.ShloMosaic.Pipeline (Dat)
open Cert.KernelIdeal.Gen Cert.Words Cert.Loss

variable (V : (c : Dev nD) → (b : Ref sig .tc) → Buf (Elt Ideal) ((c : Thread nD τ).loc b)) (c : Dev nD)
  (f : Fin 320000 → Fin 128 → ℝ) (lab : Fin 320000 → BitVec 32)

/-- The first pass's block indices at a point. -/
theorem idxA : ∀ t : Fin cfg0.N, win0_0.index t = ![t.val, 0] ∧ win0_1.index t = ![t.val, 0, 0] ∧ win0_2.index t = ![0, 0]
    ∧ win0_3.index t = ![0, 0] ∧ win0_4.index t = ![t.val, 0, 0] ∧ t.val < 10 :=
  (by decide +kernel : ∀ t : Fin grid0.N, _)

/-- The features are the real numbers `f`. -/
def HasFeat (X : Vec Ideal S320000x128 .f32) : Prop := ∀ p d, X (ix2 p d) = ((f p d : ℝ) : EReal)

/-- The reshaped labels are the words `lab`. -/
def HasLab (L : Vec Ideal S10x1x32000 .i32) : Prop := ∀ (t : Fin 10) q, L (ix3 t 0 q) = lab (pt t.val q)

/-- A block of the features holds its rows. -/
theorem featA (hX : HasFeat f (V c main_arg0)) (t : Fin cfg0.N) (q : Fin 32000) (d : Fin 128) :
    (iblk0 V c 0 t : Vec Ideal S32000x128 .f32) (ix2 q d) = ((f (pt t.val q) d : ℝ) : EReal) := by
  have ht := (idxA t).2.2.2.2.2
  rw [← hX]
  have hp := pt_val ht q
  blk_ext [iblk0, idxA t]

/-- A block of the labels holds its rows' labels. -/
theorem labA (hL : HasLab lab (V c main_v0)) (t : Fin cfg0.N) :
    blockLab (iblk0 V c 1 t) = fun q => lab (pt t.val q) := by
  funext q
  rw [← hL ⟨t.val, (idxA t).2.2.2.2.2⟩ q]
  show (iblk0 V c 1 t : Vec Ideal S1x1x32000 .i32) (ix3 0 0 q) = _
  blk_ext [iblk0, idxA t]

/-- After the last point the sums are those of all points. -/
theorem sums_run (hX : HasFeat f (V c main_arg0)) (hL : HasLab lab (V c main_v0)) (a : Fin 32) (d : Fin 128) :
    (outsAt0 V c t0_9.val t0_9.isLt).1 (ix2 a d) = ((total f lab a d : ℝ) : EReal) := by
  have h := Pipeline.eq_sum_fin_of_reset_step_apply_last (fun n h (i : Fin 32 × Fin 128) => ((outsAt0 V c n h).1 (ix2 i.1 i.2) : EReal)) 10
    (fun _ => ((0 : ℝ) : EReal)) (fun t i => ((total (fun q => f (pt t.val q)) (fun q => lab (pt t.val q)) i.1 i.2 : ℝ) : EReal))
    (fun t h0 i => by
      rw [sums_first V c t h0, sums_at _ _ _ (featA V c f hX t), labA V c lab hL t, sums_zero])
    (fun t h0 i => by
      rw [sums_next V c t h0, sums_at _ _ _ (featA V c f hX t), labA V c lab hL t])
    (le_of_eq N_0) t0_9 (by decide) (a, d)
  dsimp only at h
  rw [h, coe_sum, ← EReal.coe_add, zero_add, total_blocks f lab N_0]

/-- After the last point the counts are those of all points. -/
theorem counts_run (hL : HasLab lab (V c main_v0)) (a : Fin 32) :
    (outsAt0 V c t0_9.val t0_9.isLt).2.1 (ix2 a 0) = ((count lab a : ℝ) : EReal) := by
  have h := Pipeline.eq_sum_fin_of_reset_step_apply_last (fun n h (i : Fin 32) => ((outsAt0 V c n h).2.1 (ix2 i 0) : EReal)) 10
    (fun _ => ((0 : ℝ) : EReal)) (fun t i => ((count (fun q => lab (pt t.val q)) i : ℝ) : EReal))
    (fun t h0 i => by
      rw [counts_first V c t h0, counts_at, labA V c lab hL t, counts_zero])
    (fun t h0 i => by
      rw [counts_next V c t h0, counts_at, labA V c lab hL t])
    (le_of_eq N_0) t0_9 (by decide) a
  rw [h, coe_sum, ← EReal.coe_add, zero_add, count_blocks lab N_0]

/-- The sums' array after the first pass. -/
theorem sums_final (hX : HasFeat f (V c main_arg0)) (hL : HasLab lab (V c main_v0)) (a : Fin 32) (d : Fin 128) :
    ((dat0 V c).arrAt 2 cfg0.N : Vec Ideal S32x128 .f32) (ix2 a d) = ((total f lab a d : ℝ) : EReal) := by
  have h : (dat0 V c).arrAt 2 cfg0.N = (outsAt0 V c t0_9.val t0_9.isLt).1 := by
    refine (dat0 V c).arrAt_eq_of_after_last 2 t0_9 (by decide +kernel) _ fun j => ?_
    blk_simp
    rw [after0_2]
  rw [h]
  exact sums_run V c f lab hX hL a d

/-- The counts' array after the first pass. -/
theorem counts_final (hL : HasLab lab (V c main_v0)) (a : Fin 32) :
    ((dat0 V c).arrAt 3 cfg0.N : Vec Ideal S32x1 .f32) (ix2 a 0) = ((count lab a : ℝ) : EReal) := by
  have h : (dat0 V c).arrAt 3 cfg0.N = (outsAt0 V c t0_9.val t0_9.isLt).2.1 := by
    refine (dat0 V c).arrAt_eq_of_after_last 3 t0_9 (by decide +kernel) _ fun j => ?_
    blk_simp
    rw [after0_3]
  rw [h]
  exact counts_run V c lab hL a

/-- The squared norms' array after the first pass. -/
theorem norms_final (hX : HasFeat f (V c main_arg0)) (t : Fin 10) (q : Fin 32000) :
    ((dat0 V c).arrAt 4 cfg0.N : Vec Ideal S10x1x32000 .f32) (ix3 t 0 q)
      = ((∑ d, f (pt t.val q) d * f (pt t.val q) d : ℝ) : EReal) := by
  have h : ((dat0 V c).arrAt 4 cfg0.N : Vec Ideal S10x1x32000 .f32)
      = fun i => ((∑ d, f (pt (i 0).val (i 2)) d * f (pt (i 0).val (i 2)) d : ℝ) : EReal) := by
    refine (dat0 V c).arrAt_eq_of_covers 4 _ (by decide +kernel) fun t hf y => ?_
    blk_simp
    rw [after0_4, norms_point]
    obtain ⟨r, rfl⟩ : ∃ r : Fin 32000, y = (ix3 0 0 r : S1x1x32000.Idx) :=
      ⟨y 2, by
        funext a
        apply Fin.ext
        have h0 : (y 0).val < 1 := (y 0).isLt
        have h1 : (y 1).val < 1 := (y 1).isLt
        match a with
        | ⟨0, _⟩ => show (y 0).val = 0; omega
        | ⟨1, _⟩ => show (y 1).val = 0; omega
        | ⟨2, _⟩ => rfl⟩
    have e : ((win0_4.blk t).view.emb (ix3 0 0 r : S1x1x32000.Idx) 2 : Fin 32000) = r := by
      apply Fin.ext
      blk_simp [idxA t]
    rw [(norms_at _ _ (featA V c f hX t) r), e]
    blk_simp [idxA t]
  rw [h]
  rfl

end Cert.KernelIdeal.Whole
-- ==== Proof.KernelIdeal.ValueB.lean ====
module

public import proofs.«01_k».proof.Proof.KernelIdeal.StepsB
public import proofs.«01_k».proof.Proof.KernelIdeal.ValueA

@[expose] public section

set_option maxRecDepth 16384

noncomputable section

/-! What the second pass's array holds: in its first row the loss and its three parts. -/

namespace Cert.KernelIdeal.Whole

open Idealize.ShloMosaic Idealize.ShloMosaic.TcCoe Idealize.SL.Sem
open Idealize.ShloMosaic.Pipeline (Dat)
open Cert.KernelIdeal.Gen Cert.Words Cert.Loss

variable (V : (c : Dev nD) → (b : Ref sig .tc) → Buf (Elt Ideal) ((c : Thread nD τ).loc b)) (c : Dev nD)
  (f : Fin 320000 → Fin 128 → ℝ) (lab : Fin 320000 → BitVec 32)

/-- The second pass's block indices at a point. -/
theorem idxB : ∀ t : Fin cfg1.N, win1_0.index t = ![t.val, 0] ∧ win1_1.index t = ![t.val, 0, 0] ∧ win1_2.index t = ![t.val, 0, 0]
    ∧ win1_3.index t = ![0, 0] ∧ win1_4.index t = ![0, 0] ∧ win1_5.index t = ![0, 0] ∧ t.val < 10 :=
  (by decide +kernel : ∀ t : Fin grid1.N, _)

/-- What the second pass finds in its five inputs: the features, the labels, the squared norms, the sums and the counts. -/
structure Entry : Prop where
  feat : HasFeat f (V c main_arg0)
  labels : HasLab lab (V c main_v0)
  norms : ∀ (t : Fin 10) q, (V c main_v1_2 : Vec Ideal S10x1x32000 .f32) (ix3 t 0 q)
    = ((∑ d, f (pt t.val q) d * f (pt t.val q) d : ℝ) : EReal)
  sums : ∀ a d, (V c main_v1_0 : Vec Ideal S32x128 .f32) (ix2 a d) = ((total f lab a d : ℝ) : EReal)
  counts : ∀ a, (V c main_v1_1 : Vec Ideal S32x1 .f32) (ix2 a 0) = ((count lab a : ℝ) : EReal)
  present : ∀ a, count lab a ≠ 0

variable {V c f lab} (E : Entry V c f lab)
include E

/-- A block of the features holds its rows. -/
theorem featB (t : Fin cfg1.N) (q : Fin 32000) (d : Fin 128) :
    (iblk1 V c 0 t : Vec Ideal S32000x128 .f32) (ix2 q d) = ((f (pt t.val q) d : ℝ) : EReal) := by
  have ht := (idxB t).2.2.2.2.2.2
  rw [← E.feat]
  have hp := pt_val ht q
  blk_ext [iblk1, idxB t]

/-- A block of the labels holds its rows' labels. -/
theorem labB (t : Fin cfg1.N) : blockLab (iblk1 V c 1 t) = fun q => lab (pt t.val q) := by
  funext q
  rw [← E.labels ⟨t.val, (idxB t).2.2.2.2.2.2⟩ q]
  show (iblk1 V c 1 t : Vec Ideal S1x1x32000 .i32) (ix3 0 0 q) = _
  blk_ext [iblk1, idxB t]

/-- A block of the squared norms holds its rows' squared norms. -/
theorem normB (t : Fin cfg1.N) (q : Fin 32000) :
    (iblk1 V c 2 t : Vec Ideal S1x1x32000 .f32) (ix3 0 0 q) = ((∑ d, f (pt t.val q) d * f (pt t.val q) d : ℝ) : EReal) := by
  rw [← E.norms ⟨t.val, (idxB t).2.2.2.2.2.2⟩ q]
  blk_ext [iblk1, idxB t]

/-- The sums' block is the whole array. -/
theorem sumB (t : Fin cfg1.N) (a : Fin 32) (d : Fin 128) :
    (iblk1 V c 3 t : Vec Ideal S32x128 .f32) (ix2 a d) = ((total f lab a d : ℝ) : EReal) := by
  rw [← E.sums]
  blk_ext [iblk1, idxB t]

/-- The counts' block is the whole array. -/
theorem countB (t : Fin cfg1.N) (a : Fin 32) :
    (iblk1 V c 4 t : Vec Ideal S32x1 .f32) (ix2 a 0) = ((count lab a : ℝ) : EReal) := by
  rw [← E.counts]
  blk_ext [iblk1, idxB t]

/-- The means the first point stores. -/
theorem meanB (t : Fin cfg1.N) (a : Fin 32) (d : Fin 128) :
    k1_pay5 (iblk1 V c 3 t) (iblk1 V c 4 t) (ix2 a d) = ((mean f lab a d : ℝ) : EReal) :=
  means_at _ _ _ _ (sumB E t) (countB E t) E.present a d

/-- After every point the carried means are the means. -/
theorem means_run : ∀ (n : ℕ) (hn : n < cfg1.N) (a : Fin 32) (d : Fin 128),
    (outsAt1 V c n hn).2.1 (ix2 a d) = ((mean f lab a d : ℝ) : EReal)
  | 0, hn, a, d => by
    rw [show (outsAt1 V c 0 hn).2.1 = _ from means_first V c ⟨0, hn⟩ rfl]
    exact meanB E _ a d
  | n + 1, hn, a, d => by
    have h10 : n + 1 < 10 := lt_of_lt_of_eq hn N_1
    rw [show (outsAt1 V c (n + 1) hn).2.1 = _ from means_next V c ⟨n + 1, hn⟩ (by show ¬(n + 1) % 10 = 0; omega)]
    exact means_run n _ a d

/-- One point adds its block's penalties. -/
theorem accStep_at (t : Fin cfg1.N) (mu : Vec Ideal S32x128 .f32) (hm : ∀ a d, mu (ix2 a d) = ((mean f lab a d : ℝ) : EReal))
    (acc : Vec Ideal S32x1 .f32) (a : Fin 32) :
    accStep V c t mu acc (ix2 a 0) = acc (ix2 a 0) + ((∑ q, hit (fun q => lab (pt t.val q)) q a
      * pull (root eps (near (fun q => f (pt t.val q)) (fun q => lab (pt t.val q)) (mean f lab) q)) : ℝ) : EReal) := by
  have h := acc_at (k1_pay7 (iblk1 V c 1 t)) (k1_pay9 mu (iblk1 V c 0 t) (iblk1 V c 1 t) (iblk1 V c 2 t)) acc
    (blockLab (iblk1 V c 1 t)) _ (onehotB _) (roots_at mu (mean f lab) hm _ _ _ _ (featB E t) (normB E t)) a
  rw [labB E t] at h
  exact h

/-- After the last point the accumulator holds the penalties of all points. -/
theorem acc_run (a : Fin 32) : (outsAt1 V c t1_9.val t1_9.isLt).2.2 (ix2 a 0)
    = ((∑ p, hit lab p a * pull (√(away f (mean f lab) p a)) : ℝ) : EReal) := by
  have h := Pipeline.eq_sum_fin_of_reset_step_apply_last (fun n h (i : Fin 32) => ((outsAt1 V c n h).2.2 (ix2 i 0) : EReal)) 10
    (fun _ => ((0 : ℝ) : EReal)) (fun t i => ((∑ q, hit (fun q => lab (pt t.val q)) q i
      * pull (root eps (near (fun q => f (pt t.val q)) (fun q => lab (pt t.val q)) (mean f lab) q)) : ℝ) : EReal))
    (fun t h0 i => by rw [acc_first V c t h0, accStep_at E t _ (meanB E t), acc_zero])
    (fun t h0 i => by rw [acc_next V c t h0, accStep_at E t _ (means_run E _ _)])
    (le_of_eq N_1) t1_9 (by decide) a
  rw [h, coe_sum, ← EReal.coe_add, zero_add, pull_blocks f lab N_1]
  simp only [hit_pull f lab (mean f lab) eps_pos eps_le]

/-- The output's array after the second pass: in its first row the loss, then its three parts. -/
theorem out_final (k : Fin 4) : ((dat1 V c).arrAt 5 cfg1.N : Vec Ideal S8x128 .f32) (ix2 0 ⟨k.val, by omega⟩)
    = ((fourth (variance f lab (mean f lab)) (distance (mean f lab)) (spread (mean f lab)) k : ℝ) : EReal) := by
  have h : (dat1 V c).arrAt 5 cfg1.N = (outsAt1 V c t1_9.val t1_9.isLt).1 := by
    refine (dat1 V c).arrAt_eq_of_after_last 5 t1_9 (by decide +kernel) _ fun j => ?_
    blk_simp
    rw [after1_5]
  have h9 : t1_9.val % 10 = 9 := by decide
  have hacc : ∀ a, accStep V c t1_9 (prev1 V c t1_9).2.1 (prev1 V c t1_9).2.2 (ix2 a 0)
      = ((∑ p, hit lab p a * pull (√(away f (mean f lab) p a)) : ℝ) : EReal) := fun a => by
    rw [← acc_next V c t1_9 (by omega)]
    exact acc_run E a
  rw [h, out_last V c t1_9 h9, out_at _ _ _ (norm2 (mean f lab)) _ _ (norm2_at _ _ (means_run E _ _)) (norm2_nonneg _)
    (variance_at _ _ _ _ (countB E t1_9) E.present hacc) (pushes_at _ _ (means_run E _ _))]
  simp only [apartGram_eq]
  rfl

end Cert.KernelIdeal.Whole
-- ==== Proof.KernelIdeal.Result.lean ====
module

public import proofs.«01_k».proof.Proof.KernelIdeal.Run
public import proofs.«01_k».proof.Proof.KernelIdeal.ValueB
public import Idealize.ShloMosaic.Lib.StableHlo.RunRead
public import Idealize.ShloMosaic.Lib.StableHlo.ReadAt

@[expose] public section

set_option maxRecDepth 16384

noncomputable section

/-! What the kernel returns: the loss and its three parts, of the launch's features and labels. -/

namespace Cert.KernelIdeal.Whole

open Idealize.ShloMosaic Idealize.ShloMosaic.TcCoe Idealize.SL.Sem
open Idealize.ShloMosaic.Pipeline (Dat)
open Cert.KernelIdeal.Gen Cert.Words Cert.Loss

variable (m : (ℓ : Loc nD τ sig) → Buf (Elt Ideal) ℓ) (ρ : Dev nD → PrngReg) (c : Dev nD)
  (f : Fin 320000 → Fin 128 → ℝ) (lab : Fin 320000 → BitVec 32)

/-- The first pass finds the features as launched. -/
theorem feat1 (hX : HasFeat f (m ((c : Thread nD τ).loc main_arg0))) : HasFeat f (V1 m ρ c main_arg0) := by
  rw [show V1 m ρ c main_arg0 = _ from W1_args m ρ c main_arg0 (by decide)]
  exact hX

/-- The reshaped labels are the labels. -/
theorem lab1 (hL : ∀ p, (m ((c : Thread nD τ).loc main_arg1) : Vec Ideal S320000 .i32) (ix1 p) = lab p) :
    HasLab lab (V1 m ρ c main_v0) := by
  intro t q
  rw [← hL]
  have hp := pt_val t.isLt q
  show (StableHlo.after hostOps0 (W0 m ρ c) (Proc.devRef .tc main_v0) : Vec Ideal S10x1x32000 .i32) (ix3 t 0 q) = _
  after_reads_at
  exact congrArg (fun p => (m ((c : Thread nD τ).loc main_arg1) : Vec Ideal S320000 .i32) (ix1 p)) (Fin.ext hp.symm)

/-- The second pass finds the features, the labels and the first pass's three arrays. -/
theorem entry2 (hX : HasFeat f (m ((c : Thread nD τ).loc main_arg0)))
    (hL : ∀ p, (m ((c : Thread nD τ).loc main_arg1) : Vec Ideal S320000 .i32) (ix1 p) = lab p)
    (hn : ∀ a, count lab a ≠ 0) : Entry (V2 m ρ) c f lab where
  feat := by
    rw [show V2 m ρ c main_arg0 = _ from W2_args m ρ c main_arg0 (by decide)]
    exact hX
  labels := by
    rw [show V2 m ρ c main_v0 = V1 m ρ c main_v0 from W2_of m ρ c main_v0 (by decide)]
    exact lab1 m ρ c lab hL
  norms t q := by
    rw [show V2 m ρ c main_v1_2 = _ from W2_arr m ρ c 4]
    exact norms_final (V1 m ρ) c f (feat1 m ρ c f hX) t q
  sums a d := by
    rw [show V2 m ρ c main_v1_0 = _ from W2_arr m ρ c 2]
    exact sums_final (V1 m ρ) c f lab (feat1 m ρ c f hX) (lab1 m ρ c lab hL) a d
  counts a := by
    rw [show V2 m ρ c main_v1_1 = _ from W2_arr m ρ c 3]
    exact counts_final (V1 m ρ) c lab (lab1 m ρ c lab hL) a
  present := hn

/-- The kernel's result: the loss, then its three parts. -/
theorem result (hX : HasFeat f (m ((c : Thread nD τ).loc main_arg0)))
    (hL : ∀ p, (m ((c : Thread nD τ).loc main_arg1) : Vec Ideal S320000 .i32) (ix1 p) = lab p)
    (hn : ∀ a, count lab a ≠ 0) (k : Fin 4) : (W4 m ρ c (Proc.devRef .tc main_v4) : Vec Ideal S4 .f32) (ix1 k)
    = ((fourth (variance f lab (mean f lab)) (distance (mean f lab)) (spread (mean f lab)) k : ℝ) : EReal) := by
  rw [← out_final (entry2 m ρ c f lab hX hL hn) k,
    ← show W3 m ρ c (Proc.devRef .tc main_v2) = _ from W3_arr m ρ c 5]
  show (StableHlo.after hostOps2 (W3 m ρ c) (Proc.devRef .tc main_v4) : Vec Ideal S4 .f32) (ix1 k) = _
  after_reads_at

end Cert.KernelIdeal.Whole
-- ==== Proof.lean ====
module

public import proofs.«01_k».proof.Defs
public import proofs.«01_k».proof.Proof.Gen.Pre_finite_and_present
public import proofs.«01_k».proof.Proof.Transfer
public import proofs.«01_k».proof.Proof.Pre
public import proofs.«01_k».proof.Proof.Reference
public import proofs.«01_k».proof.Proof.KernelIdeal.Result
public import Idealize.ShloMosaic.Lib.Claim

@[expose] public section

set_option maxRecDepth 16384

noncomputable section

/-! The claim: every program runs and leaves its arguments unchanged, and the kernel and the reference return the same
four numbers over the extended reals. -/

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_and_present.Facts := Cert.Pre_finite_and_present.Gen.facts

/-- The reference runs, leaves its arguments unchanged and declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every cluster the precondition finds a label of has a count that is not zero. -/
theorem count_ne (lab : Fin 320000 → BitVec 32) (h : ∀ a : Fin 32, ∃ p, lab p = BitVec.ofNat 32 a.val) (a : Fin 32) :
    Loss.count lab a ≠ 0 :=
  (Loss.count_pos lab (h a)).ne'

/-- The kernel and the reference return the same four numbers. -/
theorem algebraic : Cert.algebraic_KernelIdeal_ReferenceIdeal_pre_finite_and_present := by
  intro m g m' g' hpre hagree
  refine ⟨fun c => Cert.KernelIdeal.Whole.W4 m g c (Proc.devRef .tc Cert.KernelIdeal.main_v4),
    (θ_run Cert.KernelIdeal.defs _ _).mono (fun _ h c => ⟨(h.1 c).2.2, (h.1 c).1, (h.1 c).2.1⟩) (Cert.KernelIdeal.Whole.run m g),
    (θ_run Cert.ReferenceIdeal.defs _ _).mono (fun _ h c => ⟨(h c).1.trans ?_, (h c).2⟩) (Cert.ReferenceIdeal.Value.run (F := Ideal) m' g')⟩
  have hp := hpre c
  have hX := Cert.Pre.features_real _ _ hp
  have hn := count_ne _ (Cert.Pre.words_present _ _ hp)
  have hR := Cert.ReferenceIdeal.Value.result m' c (by rw [(hagree c).1]; exact hX) (by rw [(hagree c).2]; exact fun _ => rfl) hn
  funext i
  obtain ⟨k, rfl⟩ : ∃ k : Fin 4, i = ix1 k := ⟨i 0, eq_ix1 i⟩
  exact (hR k).trans (Cert.KernelIdeal.Whole.result m g c _ _ hX (fun _ => rfl) hn k).symm

/-- Everything claimed. -/
theorem claim : Cert.Claim :=
  ⟨Cert.Kernel.Gen.facts, Cert.KernelIdeal.Gen.facts, Cert.ReferenceIdeal.Gen.facts, Cert.Pre_finite_and_present.Gen.facts,
    fun m g _ => Cert.Transfer.frame m g,
    fun m g _ => Cert.KernelIdeal.Whole.frame m g,
    fun m g _ => Cert.KernelIdeal.Whole.frame m g,
    reference_frame,
    fun m g _ => reference_frame m g trivial,
    trivial,
    algebraic⟩

end Cert.Proof

end
